-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S1 : Shape := ⟨1, ![1]⟩
abbrev S32 : Shape := ⟨1, ![32]⟩
abbrev S32x128x4096 : Shape := ⟨3, ![32, 128, 4096]⟩
abbrev S16x2 : Shape := ⟨2, ![16, 2]⟩
abbrev S_ : Shape := ⟨0, ![]⟩
abbrev S1x128x4096 : Shape := ⟨3, ![1, 128, 4096]⟩
abbrev S1x1 : Shape := ⟨2, ![1, 1]⟩
abbrev S1x64x4096 : Shape := ⟨3, ![1, 64, 4096]⟩
abbrev S64x4096 : Shape := ⟨2, ![64, 4096]⟩
abbrev S128x256 : Shape := ⟨2, ![128, 256]⟩

abbrev nBuf : Space → Nat
  | .hbm => 7
  | .vmem => 4
  | .smem => 4
  | _ => 0

abbrev bufTy : (tb : Table) → Fin (tcTables nBuf tb) → BufTy
  | .hbm, ⟨0, _⟩ => ⟨S128x4096, .fp8e5m2⟩
  | .hbm, ⟨1, _⟩ => ⟨S4096x256, .fp8e5m2⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32, .i32⟩
  | .hbm, ⟨6, _⟩ => ⟨S4096x256, .f32⟩
  | .local _ .vmem, ⟨0, _⟩ => ⟨S128x4096, .fp8e5m2⟩
  | .local _ .vmem, ⟨1, _⟩ => ⟨S4096x256, .fp8e5m2⟩
  | .local _ .vmem, ⟨2, _⟩ => ⟨S4096x256, .f32⟩
  | .local _ .vmem, ⟨3, _⟩ => ⟨S32x128x4096, .fp8e5m2⟩
  | .local _ .smem, ⟨0, _⟩ => ⟨S1, .f32⟩
  | .local _ .smem, ⟨1, _⟩ => ⟨S1, .f32⟩
  | .local _ .smem, ⟨2, _⟩ => ⟨S32, .i32⟩
  | .local _ .smem, ⟨3, _⟩ => ⟨S32, .i32⟩
  | _, _ => ⟨S128x4096, .fp8e5m2⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg6_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.subi v4 c1_i32_0
  let c32_i32_1 : BitVec 32 := 32#32
  let v6 : BitVec 32 := Scalar.addi v5 c32_i32_1
  let c32_i32_2 : BitVec 32 := 32#32
  let v7 : BitVec 32 := Scalar.remsi v6 c32_i32_2
  let v8 : Index := Scalar.indexCast v7
  ![v8.toNat]

def k0_off3 (v4 : BitVec 32) : Fin 1 → Nat :=
  let c1_i32_3 : BitVec 32 := 1#32
  let v10 : BitVec 32 := Scalar.addi v4 c1_i32_3
  let c32_i32_4 : BitVec 32 := 32#32
  let v11 : BitVec 32 := Scalar.remsi v10 c32_i32_4
  let v12 : Index := Scalar.indexCast v11
  ![v12.toNat]
def k0_dev1 (v9 : BitVec 32) : Nat :=
  let c0_i32 : BitVec 32 := 0#32
  let c1_i32_6 : BitVec 32 := 1#32
  let v15 : BitVec 32 := Scalar.muli v9 c1_i32_6
  let v16 : BitVec 32 := Scalar.addi c0_i32 v15
  v16.toNat

def k0_dev2 (v13 : BitVec 32) : Nat :=
  let c0_i32_9 : BitVec 32 := 0#32
  let c1_i32_8 : BitVec 32 := 1#32
  let v17 : BitVec 32 := Scalar.muli v13 c1_i32_8
  let v18 : BitVec 32 := Scalar.addi c0_i32_9 v17
  v18.toNat

def k0_dev3 (v13 : BitVec 32) : Nat :=
  let c0_i32_21 : BitVec 32 := 0#32
  let c1_i32_20 : BitVec 32 := 1#32
  let v24 : BitVec 32 := Scalar.muli v13 c1_i32_20
  let v25 : BitVec 32 := Scalar.addi c0_i32_21 v24
  v25.toNat
def k0_dev4 (v9 : BitVec 32) : Nat :=
  let c0_i32_32 : BitVec 32 := 0#32
  let c1_i32_31 : BitVec 32 := 1#32
  let v34 : BitVec 32 := Scalar.muli v9 c1_i32_31
  let v35 : BitVec 32 := Scalar.addi c0_i32_32 v34
  v35.toNat
def k0_dev5 (v13 : BitVec 32) : Nat :=
  let c0_i32_44 : BitVec 32 := 0#32
  let c1_i32_43 : BitVec 32 := 1#32
  let v44 : BitVec 32 := Scalar.muli v13 c1_i32_43
  let v45 : BitVec 32 := Scalar.addi c0_i32_44 v44
  v45.toNat
def k0_dev6 (v9 : BitVec 32) : Nat :=
  let c0_i32_55 : BitVec 32 := 0#32
  let c1_i32_54 : BitVec 32 := 1#32
  let v54 : BitVec 32 := Scalar.muli v9 c1_i32_54
  let v55 : BitVec 32 := Scalar.addi c0_i32_55 v54
  v55.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v76 : BitVec 32 := Scalar.muli v2 c128_i32
  let v77 : Index := Scalar.indexCast v76
  let c0_67 : Index := 0#32
  ![v77.toNat, 0]
def k0_dev7 (v13 : BitVec 32) : Nat :=
  let c0_i32_87 : BitVec 32 := 0#32
  let c1_i32_86 : BitVec 32 := 1#32
  let v87 : BitVec 32 := Scalar.muli v13 c1_i32_86
  let v88 : BitVec 32 := Scalar.addi c0_i32_87 v87
  v88.toNat
def k0_dev8 (v9 : BitVec 32) : Nat :=
  let c0_i32_110 : BitVec 32 := 0#32
  let c1_i32_109 : BitVec 32 := 1#32
  let v105 : BitVec 32 := Scalar.muli v9 c1_i32_109
  let v106 : BitVec 32 := Scalar.addi c0_i32_110 v105
  v106.toNat
def k0_dev9 (v13 : BitVec 32) : Nat :=
  let c0_i32_134 : BitVec 32 := 0#32
  let c1_i32_133 : BitVec 32 := 1#32
  let v123 : BitVec 32 := Scalar.muli v13 c1_i32_133
  let v124 : BitVec 32 := Scalar.addi c0_i32_134 v123
  v124.toNat
def k0_dev10 (v9 : BitVec 32) : Nat :=
  let c0_i32_158 : BitVec 32 := 0#32
  let c1_i32_157 : BitVec 32 := 1#32
  let v141 : BitVec 32 := Scalar.muli v9 c1_i32_157
  let v142 : BitVec 32 := Scalar.addi c0_i32_158 v141
  v142.toNat
def k0_off5 (v4 : BitVec 32) : Fin 1 → Nat :=
  let c1_i32_163 : BitVec 32 := 1#32
  let v151 : BitVec 32 := Scalar.subi v4 c1_i32_163
  let c32_i32_164 : BitVec 32 := 32#32
  let v152 : BitVec 32 := Scalar.addi v151 c32_i32_164
  let c32_i32_165 : BitVec 32 := 32#32
  let v153 : BitVec 32 := Scalar.remsi v152 c32_i32_165
  let v154 : Index := Scalar.indexCast v153
  ![v154.toNat]
def k0_off6 (v155 : BitVec 32) : Fin 2 → Nat :=
  let c128_i32_169 : BitVec 32 := 128#32
  let v162 : BitVec 32 := Scalar.muli v155 c128_i32_169
  let v163 : Index := Scalar.indexCast v162
  let c0_170 : Index := 0#32
  ![v163.toNat, 0]

def k0_chk4 (v155 : BitVec 32) : Prop :=
  (∀ a, (k0_off6 v155) a + S128x256.size a ≤ S4096x256.size a)
theorem k0_off6_inb : ∀ (v155 : BitVec 32) (k0_hw4 : k0_chk4 v155), ∀ a, (k0_off6 v155) a + S128x256.size a ≤ S4096x256.size a := fun v155 k0_hw4 => k0_hw4

def k0_off7 (v4 : BitVec 32) : Fin 1 → Nat :=
  let c1_i32_171 : BitVec 32 := 1#32
  let v165 : BitVec 32 := Scalar.addi v4 c1_i32_171
  let c32_i32_172 : BitVec 32 := 32#32
  let v166 : BitVec 32 := Scalar.remsi v165 c32_i32_172
  let v167 : Index := Scalar.indexCast v166
  ![v167.toNat]
def k0_off8 (v168 : BitVec 32) : Fin 2 → Nat :=
  let c128_i32_176 : BitVec 32 := 128#32
  let v175 : BitVec 32 := Scalar.muli v168 c128_i32_176
  let v176 : Index := Scalar.indexCast v175
  let c0_177 : Index := 0#32
  ![v176.toNat, 0]

def k0_chk5 (v168 : BitVec 32) : Prop :=
  (∀ a, (k0_off8 v168) a + S128x256.size a ≤ S4096x256.size a)
theorem k0_off8_inb : ∀ (v168 : BitVec 32) (k0_hw5 : k0_chk5 v168), ∀ a, (k0_off8 v168) a + S128x256.size a ≤ S4096x256.size a := fun v168 k0_hw5 => k0_hw5

def k0_dev11 (v13 : BitVec 32) : Nat :=
  let c0_i32_196 : BitVec 32 := 0#32
  let c1_i32_195 : BitVec 32 := 1#32
  let v186 : BitVec 32 := Scalar.muli v13 c1_i32_195
  let v187 : BitVec 32 := Scalar.addi c0_i32_196 v186
  v187.toNat
def k0_dev12 (v9 : BitVec 32) : Nat :=
  let c0_i32_219 : BitVec 32 := 0#32
  let c1_i32_218 : BitVec 32 := 1#32
  let v204 : BitVec 32 := Scalar.muli v9 c1_i32_218
  let v205 : BitVec 32 := Scalar.addi c0_i32_219 v204
  v205.toNat
def k0_dev13 (v13 : BitVec 32) : Nat :=
  let c0_i32_243 : BitVec 32 := 0#32
  let c1_i32_242 : BitVec 32 := 1#32
  let v222 : BitVec 32 := Scalar.muli v13 c1_i32_242
  let v223 : BitVec 32 := Scalar.addi c0_i32_243 v222
  v223.toNat
def k0_dev14 (v9 : BitVec 32) : Nat :=
  let c0_i32_267 : BitVec 32 := 0#32
  let c1_i32_266 : BitVec 32 := 1#32
  let v240 : BitVec 32 := Scalar.muli v9 c1_i32_266
  let v241 : BitVec 32 := Scalar.addi c0_i32_267 v240
  v241.toNat
def k0_off9 (v4 : BitVec 32) : Fin 1 → Nat :=
  let c2_i32_272 : BitVec 32 := 2#32
  let v250 : BitVec 32 := Scalar.subi v4 c2_i32_272
  let c32_i32_273 : BitVec 32 := 32#32
  let v251 : BitVec 32 := Scalar.addi v250 c32_i32_273
  let c32_i32_274 : BitVec 32 := 32#32
  let v252 : BitVec 32 := Scalar.remsi v251 c32_i32_274
  let v253 : Index := Scalar.indexCast v252
  ![v253.toNat]
def k0_off10 (v254 : BitVec 32) : Fin 2 → Nat :=
  let c128_i32_278 : BitVec 32 := 128#32
  let v261 : BitVec 32 := Scalar.muli v254 c128_i32_278
  let v262 : Index := Scalar.indexCast v261
  let c0_279 : Index := 0#32
  ![v262.toNat, 0]

def k0_chk6 (v254 : BitVec 32) : Prop :=
  (∀ a, (k0_off10 v254) a + S128x256.size a ≤ S4096x256.size a)
theorem k0_off10_inb : ∀ (v254 : BitVec 32) (k0_hw6 : k0_chk6 v254), ∀ a, (k0_off10 v254) a + S128x256.size a ≤ S4096x256.size a := fun v254 k0_hw6 => k0_hw6

def k0_off11 (v4 : BitVec 32) : Fin 1 → Nat :=
  let c2_i32_280 : BitVec 32 := 2#32
  let v264 : BitVec 32 := Scalar.addi v4 c2_i32_280
  let c32_i32_281 : BitVec 32 := 32#32
  let v265 : BitVec 32 := Scalar.remsi v264 c32_i32_281
  let v266 : Index := Scalar.indexCast v265
  ![v266.toNat]
def k0_off12 (v267 : BitVec 32) : Fin 2 → Nat :=
  let c128_i32_285 : BitVec 32 := 128#32
  let v274 : BitVec 32 := Scalar.muli v267 c128_i32_285
  let v275 : Index := Scalar.indexCast v274
  let c0_286 : Index := 0#32
  ![v275.toNat, 0]

def k0_chk7 (v267 : BitVec 32) : Prop :=
  (∀ a, (k0_off12 v267) a + S128x256.size a ≤ S4096x256.size a)
theorem k0_off12_inb : ∀ (v267 : BitVec 32) (k0_hw7 : k0_chk7 v267), ∀ a, (k0_off12 v267) a + S128x256.size a ≤ S4096x256.size a := fun v267 k0_hw7 => k0_hw7

def k0_dev15 (v13 : BitVec 32) : Nat :=
  let c0_i32_305 : BitVec 32 := 0#32
  let c1_i32_304 : BitVec 32 := 1#32
  let v285 : BitVec 32 := Scalar.muli v13 c1_i32_304
  let v286 : BitVec 32 := Scalar.addi c0_i32_305 v285
  v286.toNat
def k0_dev16 (v9 : BitVec 32) : Nat :=
  let c0_i32_328 : BitVec 32 := 0#32
  let c1_i32_327 : BitVec 32 := 1#32
  let v303 : BitVec 32 := Scalar.muli v9 c1_i32_327
  let v304 : BitVec 32 := Scalar.addi c0_i32_328 v303
  v304.toNat
def k0_dev17 (v13 : BitVec 32) : Nat :=
  let c0_i32_352 : BitVec 32 := 0#32
  let c1_i32_351 : BitVec 32 := 1#32
  let v321 : BitVec 32 := Scalar.muli v13 c1_i32_351
  let v322 : BitVec 32 := Scalar.addi c0_i32_352 v321
  v322.toNat
def k0_dev18 (v9 : BitVec 32) : Nat :=
  let c0_i32_376 : BitVec 32 := 0#32
  let c1_i32_375 : BitVec 32 := 1#32
  let v339 : BitVec 32 := Scalar.muli v9 c1_i32_375
  let v340 : BitVec 32 := Scalar.addi c0_i32_376 v339
  v340.toNat
def k0_off13 (v4 : BitVec 32) : Fin 1 → Nat :=
  let c3_i32_381 : BitVec 32 := 3#32
  let v349 : BitVec 32 := Scalar.subi v4 c3_i32_381
  let c32_i32_382 : BitVec 32 := 32#32
  let v350 : BitVec 32 := Scalar.addi v349 c32_i32_382
  let c32_i32_383 : BitVec 32 := 32#32
  let v351 : BitVec 32 := Scalar.remsi v350 c32_i32_383
  let v352 : Index := Scalar.indexCast v351
  ![v352.toNat]
def k0_off14 (v353 : BitVec 32) : Fin 2 → Nat :=
  let c128_i32_387 : BitVec 32 := 128#32
  let v360 : BitVec 32 := Scalar.muli v353 c128_i32_387
  let v361 : Index := Scalar.indexCast v360
  let c0_388 : Index := 0#32
  ![v361.toNat, 0]

def k0_chk8 (v353 : BitVec 32) : Prop :=
  (∀ a, (k0_off14 v353) a + S128x256.size a ≤ S4096x256.size a)
theorem k0_off14_inb : ∀ (v353 : BitVec 32) (k0_hw8 : k0_chk8 v353), ∀ a, (k0_off14 v353) a + S128x256.size a ≤ S4096x256.size a := fun v353 k0_hw8 => k0_hw8

def k0_off15 (v4 : BitVec 32) : Fin 1 → Nat :=
  let c3_i32_389 : BitVec 32 := 3#32
  let v363 : BitVec 32 := Scalar.addi v4 c3_i32_389
  let c32_i32_390 : BitVec 32 := 32#32
  let v364 : BitVec 32 := Scalar.remsi v363 c32_i32_390
  let v365 : Index := Scalar.indexCast v364
  ![v365.toNat]
def k0_off16 (v366 : BitVec 32) : Fin 2 → Nat :=
  let c128_i32_394 : BitVec 32 := 128#32
  let v373 : BitVec 32 := Scalar.muli v366 c128_i32_394
  let v374 : Index := Scalar.indexCast v373
  let c0_395 : Index := 0#32
  ![v374.toNat, 0]

def k0_chk9 (v366 : BitVec 32) : Prop :=
  (∀ a, (k0_off16 v366) a + S128x256.size a ≤ S4096x256.size a)
theorem k0_off16_inb : ∀ (v366 : BitVec 32) (k0_hw9 : k0_chk9 v366), ∀ a, (k0_off16 v366) a + S128x256.size a ≤ S4096x256.size a := fun v366 k0_hw9 => k0_hw9

def k0_dev19 (v13 : BitVec 32) : Nat :=
  let c0_i32_414 : BitVec 32 := 0#32
  let c1_i32_413 : BitVec 32 := 1#32
  let v384 : BitVec 32 := Scalar.muli v13 c1_i32_413
  let v385 : BitVec 32 := Scalar.addi c0_i32_414 v384
  v385.toNat
def k0_dev20 (v9 : BitVec 32) : Nat :=
  let c0_i32_437 : BitVec 32 := 0#32
  let c1_i32_436 : BitVec 32 := 1#32
  let v402 : BitVec 32 := Scalar.muli v9 c1_i32_436
  let v403 : BitVec 32 := Scalar.addi c0_i32_437 v402
  v403.toNat
def k0_dev21 (v13 : BitVec 32) : Nat :=
  let c0_i32_461 : BitVec 32 := 0#32
  let c1_i32_460 : BitVec 32 := 1#32
  let v420 : BitVec 32 := Scalar.muli v13 c1_i32_460
  let v421 : BitVec 32 := Scalar.addi c0_i32_461 v420
  v421.toNat
def k0_dev22 (v9 : BitVec 32) : Nat :=
  let c0_i32_485 : BitVec 32 := 0#32
  let c1_i32_484 : BitVec 32 := 1#32
  let v438 : BitVec 32 := Scalar.muli v9 c1_i32_484
  let v439 : BitVec 32 := Scalar.addi c0_i32_485 v438
  v439.toNat
def k0_off17 (v4 : BitVec 32) : Fin 1 → Nat :=
  let c4_i32_490 : BitVec 32 := 4#32
  let v448 : BitVec 32 := Scalar.subi v4 c4_i32_490
  let c32_i32_491 : BitVec 32 := 32#32
  let v449 : BitVec 32 := Scalar.addi v448 c32_i32_491
  let c32_i32_492 : BitVec 32 := 32#32
  let v450 : BitVec 32 := Scalar.remsi v449 c32_i32_492
  let v451 : Index := Scalar.indexCast v450
  ![v451.toNat]
def k0_off18 (v452 : BitVec 32) : Fin 2 → Nat :=
  let c128_i32_496 : BitVec 32 := 128#32
  let v459 : BitVec 32 := Scalar.muli v452 c128_i32_496
  let v460 : Index := Scalar.indexCast v459
  let c0_497 : Index := 0#32
  ![v460.toNat, 0]

def k0_chk10 (v452 : BitVec 32) : Prop :=
  (∀ a, (k0_off18 v452) a + S128x256.size a ≤ S4096x256.size a)
theorem k0_off18_inb : ∀ (v452 : BitVec 32) (k0_hw10 : k0_chk10 v452), ∀ a, (k0_off18 v452) a + S128x256.size a ≤ S4096x256.size a := fun v452 k0_hw10 => k0_hw10

def k0_off19 (v4 : BitVec 32) : Fin 1 → Nat :=
  let c4_i32_498 : BitVec 32 := 4#32
  let v462 : BitVec 32 := Scalar.addi v4 c4_i32_498
  let c32_i32_499 : BitVec 32 := 32#32
  let v463 : BitVec 32 := Scalar.remsi v462 c32_i32_499
  let v464 : Index := Scalar.indexCast v463
  ![v464.toNat]
def k0_off20 (v465 : BitVec 32) : Fin 2 → Nat :=
  let c128_i32_503 : BitVec 32 := 128#32
  let v472 : BitVec 32 := Scalar.muli v465 c128_i32_503
  let v473 : Index := Scalar.indexCast v472
  let c0_504 : Index := 0#32
  ![v473.toNat, 0]

def k0_chk11 (v465 : BitVec 32) : Prop :=
  (∀ a, (k0_off20 v465) a + S128x256.size a ≤ S4096x256.size a)
theorem k0_off20_inb : ∀ (v465 : BitVec 32) (k0_hw11 : k0_chk11 v465), ∀ a, (k0_off20 v465) a + S128x256.size a ≤ S4096x256.size a := fun v465 k0_hw11 => k0_hw11

def k0_dev23 (v13 : BitVec 32) : Nat :=
  let c0_i32_523 : BitVec 32 := 0#32
  let c1_i32_522 : BitVec 32 := 1#32
  let v483 : BitVec 32 := Scalar.muli v13 c1_i32_522
  let v484 : BitVec 32 := Scalar.addi c0_i32_523 v483
  v484.toNat
def k0_dev24 (v9 : BitVec 32) : Nat :=
  let c0_i32_546 : BitVec 32 := 0#32
  let c1_i32_545 : BitVec 32 := 1#32
  let v501 : BitVec 32 := Scalar.muli v9 c1_i32_545
  let v502 : BitVec 32 := Scalar.addi c0_i32_546 v501
  v502.toNat
def k0_dev25 (v13 : BitVec 32) : Nat :=
  let c0_i32_570 : BitVec 32 := 0#32
  let c1_i32_569 : BitVec 32 := 1#32
  let v519 : BitVec 32 := Scalar.muli v13 c1_i32_569
  let v520 : BitVec 32 := Scalar.addi c0_i32_570 v519
  v520.toNat
def k0_dev26 (v9 : BitVec 32) : Nat :=
  let c0_i32_594 : BitVec 32 := 0#32
  let c1_i32_593 : BitVec 32 := 1#32
  let v537 : BitVec 32 := Scalar.muli v9 c1_i32_593
  let v538 : BitVec 32 := Scalar.addi c0_i32_594 v537
  v538.toNat
def k0_off21 (v4 : BitVec 32) : Fin 1 → Nat :=
  let c5_i32_599 : BitVec 32 := 5#32
  let v547 : BitVec 32 := Scalar.subi v4 c5_i32_599
  let c32_i32_600 : BitVec 32 := 32#32
  let v548 : BitVec 32 := Scalar.addi v547 c32_i32_600
  let c32_i32_601 : BitVec 32 := 32#32
  let v549 : BitVec 32 := Scalar.remsi v548 c32_i32_601
  let v550 : Index := Scalar.indexCast v549
  ![v550.toNat]
def k0_off22 (v551 : BitVec 32) : Fin 2 → Nat :=
  let c128_i32_605 : BitVec 32 := 128#32
  let v558 : BitVec 32 := Scalar.muli v551 c128_i32_605
  let v559 : Index := Scalar.indexCast v558
  let c0_606 : Index := 0#32
  ![v559.toNat, 0]

def k0_chk12 (v551 : BitVec 32) : Prop :=
  (∀ a, (k0_off22 v551) a + S128x256.size a ≤ S4096x256.size a)
theorem k0_off22_inb : ∀ (v551 : BitVec 32) (k0_hw12 : k0_chk12 v551), ∀ a, (k0_off22 v551) a + S128x256.size a ≤ S4096x256.size a := fun v551 k0_hw12 => k0_hw12

def k0_off23 (v4 : BitVec 32) : Fin 1 → Nat :=
  let c5_i32_607 : BitVec 32 := 5#32
  let v561 : BitVec 32 := Scalar.addi v4 c5_i32_607
  let c32_i32_608 : BitVec 32 := 32#32
  let v562 : BitVec 32 := Scalar.remsi v561 c32_i32_608
  let v563 : Index := Scalar.indexCast v562
  ![v563.toNat]
def k0_off24 (v564 : BitVec 32) : Fin 2 → Nat :=
  let c128_i32_612 : BitVec 32 := 128#32
  let v571 : BitVec 32 := Scalar.muli v564 c128_i32_612
  let v572 : Index := Scalar.indexCast v571
  let c0_613 : Index := 0#32
  ![v572.toNat, 0]

def k0_chk13 (v564 : BitVec 32) : Prop :=
  (∀ a, (k0_off24 v564) a + S128x256.size a ≤ S4096x256.size a)
theorem k0_off24_inb : ∀ (v564 : BitVec 32) (k0_hw13 : k0_chk13 v564), ∀ a, (k0_off24 v564) a + S128x256.size a ≤ S4096x256.size a := fun v564 k0_hw13 => k0_hw13

def k0_dev27 (v13 : BitVec 32) : Nat :=
  let c0_i32_632 : BitVec 32 := 0#32
  let c1_i32_631 : BitVec 32 := 1#32
  let v582 : BitVec 32 := Scalar.muli v13 c1_i32_631
  let v583 : BitVec 32 := Scalar.addi c0_i32_632 v582
  v583.toNat
def k0_dev28 (v9 : BitVec 32) : Nat :=
  let c0_i32_655 : BitVec 32 := 0#32
  let c1_i32_654 : BitVec 32 := 1#32
  let v600 : BitVec 32 := Scalar.muli v9 c1_i32_654
  let v601 : BitVec 32 := Scalar.addi c0_i32_655 v600
  v601.toNat
def k0_dev29 (v13 : BitVec 32) : Nat :=
  let c0_i32_679 : BitVec 32 := 0#32
  let c1_i32_678 : BitVec 32 := 1#32
  let v618 : BitVec 32 := Scalar.muli v13 c1_i32_678
  let v619 : BitVec 32 := Scalar.addi c0_i32_679 v618
  v619.toNat
def k0_dev30 (v9 : BitVec 32) : Nat :=
  let c0_i32_703 : BitVec 32 := 0#32
  let c1_i32_702 : BitVec 32 := 1#32
  let v636 : BitVec 32 := Scalar.muli v9 c1_i32_702
  let v637 : BitVec 32 := Scalar.addi c0_i32_703 v636
  v637.toNat
def k0_off25 (v4 : BitVec 32) : Fin 1 → Nat :=
  let c6_i32_708 : BitVec 32 := 6#32
  let v646 : BitVec 32 := Scalar.subi v4 c6_i32_708
  let c32_i32_709 : BitVec 32 := 32#32
  let v647 : BitVec 32 := Scalar.addi v646 c32_i32_709
  let c32_i32_710 : BitVec 32 := 32#32
  let v648 : BitVec 32 := Scalar.remsi v647 c32_i32_710
  let v649 : Index := Scalar.indexCast v648
  ![v649.toNat]
def k0_off26 (v650 : BitVec 32) : Fin 2 → Nat :=
  let c128_i32_714 : BitVec 32 := 128#32
  let v657 : BitVec 32 := Scalar.muli v650 c128_i32_714
  let v658 : Index := Scalar.indexCast v657
  let c0_715 : Index := 0#32
  ![v658.toNat, 0]

def k0_chk14 (v650 : BitVec 32) : Prop :=
  (∀ a, (k0_off26 v650) a + S128x256.size a ≤ S4096x256.size a)
theorem k0_off26_inb : ∀ (v650 : BitVec 32) (k0_hw14 : k0_chk14 v650), ∀ a, (k0_off26 v650) a + S128x256.size a ≤ S4096x256.size a := fun v650 k0_hw14 => k0_hw14

def k0_off27 (v4 : BitVec 32) : Fin 1 → Nat :=
  let c6_i32_716 : BitVec 32 := 6#32
  let v660 : BitVec 32 := Scalar.addi v4 c6_i32_716
  let c32_i32_717 : BitVec 32 := 32#32
  let v661 : BitVec 32 := Scalar.remsi v660 c32_i32_717
  let v662 : Index := Scalar.indexCast v661
  ![v662.toNat]
def k0_off28 (v663 : BitVec 32) : Fin 2 → Nat :=
  let c128_i32_721 : BitVec 32 := 128#32
  let v670 : BitVec 32 := Scalar.muli v663 c128_i32_721
  let v671 : Index := Scalar.indexCast v670
  let c0_722 : Index := 0#32
  ![v671.toNat, 0]

def k0_chk15 (v663 : BitVec 32) : Prop :=
  (∀ a, (k0_off28 v663) a + S128x256.size a ≤ S4096x256.size a)
theorem k0_off28_inb : ∀ (v663 : BitVec 32) (k0_hw15 : k0_chk15 v663), ∀ a, (k0_off28 v663) a + S128x256.size a ≤ S4096x256.size a := fun v663 k0_hw15 => k0_hw15

def k0_dev31 (v13 : BitVec 32) : Nat :=
  let c0_i32_741 : BitVec 32 := 0#32
  let c1_i32_740 : BitVec 32 := 1#32
  let v681 : BitVec 32 := Scalar.muli v13 c1_i32_740
  let v682 : BitVec 32 := Scalar.addi c0_i32_741 v681
  v682.toNat
def k0_dev32 (v9 : BitVec 32) : Nat :=
  let c0_i32_764 : BitVec 32 := 0#32
  let c1_i32_763 : BitVec 32 := 1#32
  let v699 : BitVec 32 := Scalar.muli v9 c1_i32_763
  let v700 : BitVec 32 := Scalar.addi c0_i32_764 v699
  v700.toNat
def k0_dev33 (v13 : BitVec 32) : Nat :=
  let c0_i32_788 : BitVec 32 := 0#32
  let c1_i32_787 : BitVec 32 := 1#32
  let v717 : BitVec 32 := Scalar.muli v13 c1_i32_787
  let v718 : BitVec 32 := Scalar.addi c0_i32_788 v717
  v718.toNat
def k0_dev34 (v9 : BitVec 32) : Nat :=
  let c0_i32_812 : BitVec 32 := 0#32
  let c1_i32_811 : BitVec 32 := 1#32
  let v735 : BitVec 32 := Scalar.muli v9 c1_i32_811
  let v736 : BitVec 32 := Scalar.addi c0_i32_812 v735
  v736.toNat
def k0_off29 (v4 : BitVec 32) : Fin 1 → Nat :=
  let c7_i32_817 : BitVec 32 := 7#32
  let v745 : BitVec 32 := Scalar.subi v4 c7_i32_817
  let c32_i32_818 : BitVec 32 := 32#32
  let v746 : BitVec 32 := Scalar.addi v745 c32_i32_818
  let c32_i32_819 : BitVec 32 := 32#32
  let v747 : BitVec 32 := Scalar.remsi v746 c32_i32_819
  let v748 : Index := Scalar.indexCast v747
  ![v748.toNat]
def k0_off30 (v749 : BitVec 32) : Fin 2 → Nat :=
  let c128_i32_823 : BitVec 32 := 128#32
  let v756 : BitVec 32 := Scalar.muli v749 c128_i32_823
  let v757 : Index := Scalar.indexCast v756
  let c0_824 : Index := 0#32
  ![v757.toNat, 0]

def k0_chk16 (v749 : BitVec 32) : Prop :=
  (∀ a, (k0_off30 v749) a + S128x256.size a ≤ S4096x256.size a)
theorem k0_off30_inb : ∀ (v749 : BitVec 32) (k0_hw16 : k0_chk16 v749), ∀ a, (k0_off30 v749) a + S128x256.size a ≤ S4096x256.size a := fun v749 k0_hw16 => k0_hw16

def k0_off31 (v4 : BitVec 32) : Fin 1 → Nat :=
  let c7_i32_825 : BitVec 32 := 7#32
  let v759 : BitVec 32 := Scalar.addi v4 c7_i32_825
  let c32_i32_826 : BitVec 32 := 32#32
  let v760 : BitVec 32 := Scalar.remsi v759 c32_i32_826
  let v761 : Index := Scalar.indexCast v760
  ![v761.toNat]
def k0_off32 (v762 : BitVec 32) : Fin 2 → Nat :=
  let c128_i32_830 : BitVec 32 := 128#32
  let v769 : BitVec 32 := Scalar.muli v762 c128_i32_830
  let v770 : Index := Scalar.indexCast v769
  let c0_831 : Index := 0#32
  ![v770.toNat, 0]

def k0_chk17 (v762 : BitVec 32) : Prop :=
  (∀ a, (k0_off32 v762) a + S128x256.size a ≤ S4096x256.size a)
theorem k0_off32_inb : ∀ (v762 : BitVec 32) (k0_hw17 : k0_chk17 v762), ∀ a, (k0_off32 v762) a + S128x256.size a ≤ S4096x256.size a := fun v762 k0_hw17 => k0_hw17

def k0_dev35 (v13 : BitVec 32) : Nat :=
  let c0_i32_850 : BitVec 32 := 0#32
  let c1_i32_849 : BitVec 32 := 1#32
  let v780 : BitVec 32 := Scalar.muli v13 c1_i32_849
  let v781 : BitVec 32 := Scalar.addi c0_i32_850 v780
  v781.toNat
def k0_dev36 (v9 : BitVec 32) : Nat :=
  let c0_i32_873 : BitVec 32 := 0#32
  let c1_i32_872 : BitVec 32 := 1#32
  let v798 : BitVec 32 := Scalar.muli v9 c1_i32_872
  let v799 : BitVec 32 := Scalar.addi c0_i32_873 v798
  v799.toNat
def k0_dev37 (v13 : BitVec 32) : Nat :=
  let c0_i32_897 : BitVec 32 := 0#32
  let c1_i32_896 : BitVec 32 := 1#32
  let v816 : BitVec 32 := Scalar.muli v13 c1_i32_896
  let v817 : BitVec 32 := Scalar.addi c0_i32_897 v816
  v817.toNat
def k0_dev38 (v9 : BitVec 32) : Nat :=
  let c0_i32_921 : BitVec 32 := 0#32
  let c1_i32_920 : BitVec 32 := 1#32
  let v834 : BitVec 32 := Scalar.muli v9 c1_i32_920
  let v835 : BitVec 32 := Scalar.addi c0_i32_921 v834
  v835.toNat
def k0_off33 (v4 : BitVec 32) : Fin 1 → Nat :=
  let c8_i32_926 : BitVec 32 := 8#32
  let v844 : BitVec 32 := Scalar.subi v4 c8_i32_926
  let c32_i32_927 : BitVec 32 := 32#32
  let v845 : BitVec 32 := Scalar.addi v844 c32_i32_927
  let c32_i32_928 : BitVec 32 := 32#32
  let v846 : BitVec 32 := Scalar.remsi v845 c32_i32_928
  let v847 : Index := Scalar.indexCast v846
  ![v847.toNat]
def k0_off34 (v848 : BitVec 32) : Fin 2 → Nat :=
  let c128_i32_932 : BitVec 32 := 128#32
  let v855 : BitVec 32 := Scalar.muli v848 c128_i32_932
  let v856 : Index := Scalar.indexCast v855
  let c0_933 : Index := 0#32
  ![v856.toNat, 0]

def k0_chk18 (v848 : BitVec 32) : Prop :=
  (∀ a, (k0_off34 v848) a + S128x256.size a ≤ S4096x256.size a)
theorem k0_off34_inb : ∀ (v848 : BitVec 32) (k0_hw18 : k0_chk18 v848), ∀ a, (k0_off34 v848) a + S128x256.size a ≤ S4096x256.size a := fun v848 k0_hw18 => k0_hw18

def k0_off35 (v4 : BitVec 32) : Fin 1 → Nat :=
  let c8_i32_934 : BitVec 32 := 8#32
  let v858 : BitVec 32 := Scalar.addi v4 c8_i32_934
  let c32_i32_935 : BitVec 32 := 32#32
  let v859 : BitVec 32 := Scalar.remsi v858 c32_i32_935
  let v860 : Index := Scalar.indexCast v859
  ![v860.toNat]
def k0_off36 (v861 : BitVec 32) : Fin 2 → Nat :=
  let c128_i32_939 : BitVec 32 := 128#32
  let v868 : BitVec 32 := Scalar.muli v861 c128_i32_939
  let v869 : Index := Scalar.indexCast v868
  let c0_940 : Index := 0#32
  ![v869.toNat, 0]

def k0_chk19 (v861 : BitVec 32) : Prop :=
  (∀ a, (k0_off36 v861) a + S128x256.size a ≤ S4096x256.size a)
theorem k0_off36_inb : ∀ (v861 : BitVec 32) (k0_hw19 : k0_chk19 v861), ∀ a, (k0_off36 v861) a + S128x256.size a ≤ S4096x256.size a := fun v861 k0_hw19 => k0_hw19

def k0_dev39 (v13 : BitVec 32) : Nat :=
  let c0_i32_959 : BitVec 32 := 0#32
  let c1_i32_958 : BitVec 32 := 1#32
  let v879 : BitVec 32 := Scalar.muli v13 c1_i32_958
  let v880 : BitVec 32 := Scalar.addi c0_i32_959 v879
  v880.toNat
def k0_dev40 (v9 : BitVec 32) : Nat :=
  let c0_i32_982 : BitVec 32 := 0#32
  let c1_i32_981 : BitVec 32 := 1#32
  let v897 : BitVec 32 := Scalar.muli v9 c1_i32_981
  let v898 : BitVec 32 := Scalar.addi c0_i32_982 v897
  v898.toNat
def k0_dev41 (v13 : BitVec 32) : Nat :=
  let c0_i32_1006 : BitVec 32 := 0#32
  let c1_i32_1005 : BitVec 32 := 1#32
  let v915 : BitVec 32 := Scalar.muli v13 c1_i32_1005
  let v916 : BitVec 32 := Scalar.addi c0_i32_1006 v915
  v916.toNat
def k0_dev42 (v9 : BitVec 32) : Nat :=
  let c0_i32_1030 : BitVec 32 := 0#32
  let c1_i32_1029 : BitVec 32 := 1#32
  let v933 : BitVec 32 := Scalar.muli v9 c1_i32_1029
  let v934 : BitVec 32 := Scalar.addi c0_i32_1030 v933
  v934.toNat
def k0_off37 (v4 : BitVec 32) : Fin 1 → Nat :=
  let c9_i32_1035 : BitVec 32 := 9#32
  let v943 : BitVec 32 := Scalar.subi v4 c9_i32_1035
  let c32_i32_1036 : BitVec 32 := 32#32
  let v944 : BitVec 32 := Scalar.addi v943 c32_i32_1036
  let c32_i32_1037 : BitVec 32 := 32#32
  let v945 : BitVec 32 := Scalar.remsi v944 c32_i32_1037
  let v946 : Index := Scalar.indexCast v945
  ![v946.toNat]
def k0_off38 (v947 : BitVec 32) : Fin 2 → Nat :=
  let c128_i32_1041 : BitVec 32 := 128#32
  let v954 : BitVec 32 := Scalar.muli v947 c128_i32_1041
  let v955 : Index := Scalar.indexCast v954
  let c0_1042 : Index := 0#32
  ![v955.toNat, 0]

def k0_chk20 (v947 : BitVec 32) : Prop :=
  (∀ a, (k0_off38 v947) a + S128x256.size a ≤ S4096x256.size a)
theorem k0_off38_inb : ∀ (v947 : BitVec 32) (k0_hw20 : k0_chk20 v947), ∀ a, (k0_off38 v947) a + S128x256.size a ≤ S4096x256.size a := fun v947 k0_hw20 => k0_hw20

def k0_off39 (v4 : BitVec 32) : Fin 1 → Nat :=
  let c9_i32_1043 : BitVec 32 := 9#32
  let v957 : BitVec 32 := Scalar.addi v4 c9_i32_1043
  let c32_i32_1044 : BitVec 32 := 32#32
  let v958 : BitVec 32 := Scalar.remsi v957 c32_i32_1044
  let v959 : Index := Scalar.indexCast v958
  ![v959.toNat]
def k0_off40 (v960 : BitVec 32) : Fin 2 → Nat :=
  let c128_i32_1048 : BitVec 32 := 128#32
  let v967 : BitVec 32 := Scalar.muli v960 c128_i32_1048
  let v968 : Index := Scalar.indexCast v967
  let c0_1049 : Index := 0#32
  ![v968.toNat, 0]

def k0_chk21 (v960 : BitVec 32) : Prop :=
  (∀ a, (k0_off40 v960) a + S128x256.size a ≤ S4096x256.size a)
theorem k0_off40_inb : ∀ (v960 : BitVec 32) (k0_hw21 : k0_chk21 v960), ∀ a, (k0_off40 v960) a + S128x256.size a ≤ S4096x256.size a := fun v960 k0_hw21 => k0_hw21

def k0_dev43 (v13 : BitVec 32) : Nat :=
  let c0_i32_1068 : BitVec 32 := 0#32
  let c1_i32_1067 : BitVec 32 := 1#32
  let v978 : BitVec 32 := Scalar.muli v13 c1_i32_1067
  let v979 : BitVec 32 := Scalar.addi c0_i32_1068 v978
  v979.toNat
def k0_dev44 (v9 : BitVec 32) : Nat :=
  let c0_i32_1091 : BitVec 32 := 0#32
  let c1_i32_1090 : BitVec 32 := 1#32
  let v996 : BitVec 32 := Scalar.muli v9 c1_i32_1090
  let v997 : BitVec 32 := Scalar.addi c0_i32_1091 v996
  v997.toNat
def k0_dev45 (v13 : BitVec 32) : Nat :=
  let c0_i32_1115 : BitVec 32 := 0#32
  let c1_i32_1114 : BitVec 32 := 1#32
  let v1014 : BitVec 32 := Scalar.muli v13 c1_i32_1114
  let v1015 : BitVec 32 := Scalar.addi c0_i32_1115 v1014
  v1015.toNat
def k0_dev46 (v9 : BitVec 32) : Nat :=
  let c0_i32_1139 : BitVec 32 := 0#32
  let c1_i32_1138 : BitVec 32 := 1#32
  let v1032 : BitVec 32 := Scalar.muli v9 c1_i32_1138
  let v1033 : BitVec 32 := Scalar.addi c0_i32_1139 v1032
  v1033.toNat
def k0_off41 (v4 : BitVec 32) : Fin 1 → Nat :=
  let c10_i32_1144 : BitVec 32 := 10#32
  let v1042 : BitVec 32 := Scalar.subi v4 c10_i32_1144
  let c32_i32_1145 : BitVec 32 := 32#32
  let v1043 : BitVec 32 := Scalar.addi v1042 c32_i32_1145
  let c32_i32_1146 : BitVec 32 := 32#32
  let v1044 : BitVec 32 := Scalar.remsi v1043 c32_i32_1146
  let v1045 : Index := Scalar.indexCast v1044
  ![v1045.toNat]
def k0_off42 (v1046 : BitVec 32) : Fin 2 → Nat :=
  let c128_i32_1150 : BitVec 32 := 128#32
  let v1053 : BitVec 32 := Scalar.muli v1046 c128_i32_1150
  let v1054 : Index := Scalar.indexCast v1053
  let c0_1151 : Index := 0#32
  ![v1054.toNat, 0]

def k0_chk22 (v1046 : BitVec 32) : Prop :=
  (∀ a, (k0_off42 v1046) a + S128x256.size a ≤ S4096x256.size a)
theorem k0_off42_inb : ∀ (v1046 : BitVec 32) (k0_hw22 : k0_chk22 v1046), ∀ a, (k0_off42 v1046) a + S128x256.size a ≤ S4096x256.size a := fun v1046 k0_hw22 => k0_hw22

def k0_off43 (v4 : BitVec 32) : Fin 1 → Nat :=
  let c10_i32_1152 : BitVec 32 := 10#32
  let v1056 : BitVec 32 := Scalar.addi v4 c10_i32_1152
  let c32_i32_1153 : BitVec 32 := 32#32
  let v1057 : BitVec 32 := Scalar.remsi v1056 c32_i32_1153
  let v1058 : Index := Scalar.indexCast v1057
  ![v1058.toNat]
def k0_off44 (v1059 : BitVec 32) : Fin 2 → Nat :=
  let c128_i32_1157 : BitVec 32 := 128#32
  let v1066 : BitVec 32 := Scalar.muli v1059 c128_i32_1157
  let v1067 : Index := Scalar.indexCast v1066
  let c0_1158 : Index := 0#32
  ![v1067.toNat, 0]

def k0_chk23 (v1059 : BitVec 32) : Prop :=
  (∀ a, (k0_off44 v1059) a + S128x256.size a ≤ S4096x256.size a)
theorem k0_off44_inb : ∀ (v1059 : BitVec 32) (k0_hw23 : k0_chk23 v1059), ∀ a, (k0_off44 v1059) a + S128x256.size a ≤ S4096x256.size a := fun v1059 k0_hw23 => k0_hw23

def k0_dev47 (v13 : BitVec 32) : Nat :=
  let c0_i32_1177 : BitVec 32 := 0#32
  let c1_i32_1176 : BitVec 32 := 1#32
  let v1077 : BitVec 32 := Scalar.muli v13 c1_i32_1176
  let v1078 : BitVec 32 := Scalar.addi c0_i32_1177 v1077
  v1078.toNat
def k0_dev48 (v9 : BitVec 32) : Nat :=
  let c0_i32_1200 : BitVec 32 := 0#32
  let c1_i32_1199 : BitVec 32 := 1#32
  let v1095 : BitVec 32 := Scalar.muli v9 c1_i32_1199
  let v1096 : BitVec 32 := Scalar.addi c0_i32_1200 v1095
  v1096.toNat
def k0_dev49 (v13 : BitVec 32) : Nat :=
  let c0_i32_1224 : BitVec 32 := 0#32
  let c1_i32_1223 : BitVec 32 := 1#32
  let v1113 : BitVec 32 := Scalar.muli v13 c1_i32_1223
  let v1114 : BitVec 32 := Scalar.addi c0_i32_1224 v1113
  v1114.toNat
def k0_dev50 (v9 : BitVec 32) : Nat :=
  let c0_i32_1248 : BitVec 32 := 0#32
  let c1_i32_1247 : BitVec 32 := 1#32
  let v1131 : BitVec 32 := Scalar.muli v9 c1_i32_1247
  let v1132 : BitVec 32 := Scalar.addi c0_i32_1248 v1131
  v1132.toNat
def k0_off45 (v4 : BitVec 32) : Fin 1 → Nat :=
  let c11_i32_1253 : BitVec 32 := 11#32
  let v1141 : BitVec 32 := Scalar.subi v4 c11_i32_1253
  let c32_i32_1254 : BitVec 32 := 32#32
  let v1142 : BitVec 32 := Scalar.addi v1141 c32_i32_1254
  let c32_i32_1255 : BitVec 32 := 32#32
  let v1143 : BitVec 32 := Scalar.remsi v1142 c32_i32_1255
  let v1144 : Index := Scalar.indexCast v1143
  ![v1144.toNat]
def k0_off46 (v1145 : BitVec 32) : Fin 2 → Nat :=
  let c128_i32_1259 : BitVec 32 := 128#32
  let v1152 : BitVec 32 := Scalar.muli v1145 c128_i32_1259
  let v1153 : Index := Scalar.indexCast v1152
  let c0_1260 : Index := 0#32
  ![v1153.toNat, 0]

def k0_chk24 (v1145 : BitVec 32) : Prop :=
  (∀ a, (k0_off46 v1145) a + S128x256.size a ≤ S4096x256.size a)
theorem k0_off46_inb : ∀ (v1145 : BitVec 32) (k0_hw24 : k0_chk24 v1145), ∀ a, (k0_off46 v1145) a + S128x256.size a ≤ S4096x256.size a := fun v1145 k0_hw24 => k0_hw24

def k0_off47 (v4 : BitVec 32) : Fin 1 → Nat :=
  let c11_i32_1261 : BitVec 32 := 11#32
  let v1155 : BitVec 32 := Scalar.addi v4 c11_i32_1261
  let c32_i32_1262 : BitVec 32 := 32#32
  let v1156 : BitVec 32 := Scalar.remsi v1155 c32_i32_1262
  let v1157 : Index := Scalar.indexCast v1156
  ![v1157.toNat]
def k0_off48 (v1158 : BitVec 32) : Fin 2 → Nat :=
  let c128_i32_1266 : BitVec 32 := 128#32
  let v1165 : BitVec 32 := Scalar.muli v1158 c128_i32_1266
  let v1166 : Index := Scalar.indexCast v1165
  let c0_1267 : Index := 0#32
  ![v1166.toNat, 0]

def k0_chk25 (v1158 : BitVec 32) : Prop :=
  (∀ a, (k0_off48 v1158) a + S128x256.size a ≤ S4096x256.size a)
theorem k0_off48_inb : ∀ (v1158 : BitVec 32) (k0_hw25 : k0_chk25 v1158), ∀ a, (k0_off48 v1158) a + S128x256.size a ≤ S4096x256.size a := fun v1158 k0_hw25 => k0_hw25

def k0_dev51 (v13 : BitVec 32) : Nat :=
  let c0_i32_1286 : BitVec 32 := 0#32
  let c1_i32_1285 : BitVec 32 := 1#32
  let v1176 : BitVec 32 := Scalar.muli v13 c1_i32_1285
  let v1177 : BitVec 32 := Scalar.addi c0_i32_1286 v1176
  v1177.toNat
def k0_dev52 (v9 : BitVec 32) : Nat :=
  let c0_i32_1309 : BitVec 32 := 0#32
  let c1_i32_1308 : BitVec 32 := 1#32
  let v1194 : BitVec 32 := Scalar.muli v9 c1_i32_1308
  let v1195 : BitVec 32 := Scalar.addi c0_i32_1309 v1194
  v1195.toNat
def k0_dev53 (v13 : BitVec 32) : Nat :=
  let c0_i32_1333 : BitVec 32 := 0#32
  let c1_i32_1332 : BitVec 32 := 1#32
  let v1212 : BitVec 32 := Scalar.muli v13 c1_i32_1332
  let v1213 : BitVec 32 := Scalar.addi c0_i32_1333 v1212
  v1213.toNat
def k0_dev54 (v9 : BitVec 32) : Nat :=
  let c0_i32_1357 : BitVec 32 := 0#32
  let c1_i32_1356 : BitVec 32 := 1#32
  let v1230 : BitVec 32 := Scalar.muli v9 c1_i32_1356
  let v1231 : BitVec 32 := Scalar.addi c0_i32_1357 v1230
  v1231.toNat
def k0_off49 (v4 : BitVec 32) : Fin 1 → Nat :=
  let c12_i32_1362 : BitVec 32 := 12#32
  let v1240 : BitVec 32 := Scalar.subi v4 c12_i32_1362
  let c32_i32_1363 : BitVec 32 := 32#32
  let v1241 : BitVec 32 := Scalar.addi v1240 c32_i32_1363
  let c32_i32_1364 : BitVec 32 := 32#32
  let v1242 : BitVec 32 := Scalar.remsi v1241 c32_i32_1364
  let v1243 : Index := Scalar.indexCast v1242
  ![v1243.toNat]
def k0_off50 (v1244 : BitVec 32) : Fin 2 → Nat :=
  let c128_i32_1368 : BitVec 32 := 128#32
  let v1251 : BitVec 32 := Scalar.muli v1244 c128_i32_1368
  let v1252 : Index := Scalar.indexCast v1251
  let c0_1369 : Index := 0#32
  ![v1252.toNat, 0]

def k0_chk26 (v1244 : BitVec 32) : Prop :=
  (∀ a, (k0_off50 v1244) a + S128x256.size a ≤ S4096x256.size a)
theorem k0_off50_inb : ∀ (v1244 : BitVec 32) (k0_hw26 : k0_chk26 v1244), ∀ a, (k0_off50 v1244) a + S128x256.size a ≤ S4096x256.size a := fun v1244 k0_hw26 => k0_hw26

def k0_off51 (v4 : BitVec 32) : Fin 1 → Nat :=
  let c12_i32_1370 : BitVec 32 := 12#32
  let v1254 : BitVec 32 := Scalar.addi v4 c12_i32_1370
  let c32_i32_1371 : BitVec 32 := 32#32
  let v1255 : BitVec 32 := Scalar.remsi v1254 c32_i32_1371
  let v1256 : Index := Scalar.indexCast v1255
  ![v1256.toNat]
def k0_off52 (v1257 : BitVec 32) : Fin 2 → Nat :=
  let c128_i32_1375 : BitVec 32 := 128#32
  let v1264 : BitVec 32 := Scalar.muli v1257 c128_i32_1375
  let v1265 : Index := Scalar.indexCast v1264
  let c0_1376 : Index := 0#32
  ![v1265.toNat, 0]

def k0_chk27 (v1257 : BitVec 32) : Prop :=
  (∀ a, (k0_off52 v1257) a + S128x256.size a ≤ S4096x256.size a)
theorem k0_off52_inb : ∀ (v1257 : BitVec 32) (k0_hw27 : k0_chk27 v1257), ∀ a, (k0_off52 v1257) a + S128x256.size a ≤ S4096x256.size a := fun v1257 k0_hw27 => k0_hw27

def k0_dev55 (v13 : BitVec 32) : Nat :=
  let c0_i32_1395 : BitVec 32 := 0#32
  let c1_i32_1394 : BitVec 32 := 1#32
  let v1275 : BitVec 32 := Scalar.muli v13 c1_i32_1394
  let v1276 : BitVec 32 := Scalar.addi c0_i32_1395 v1275
  v1276.toNat
def k0_dev56 (v9 : BitVec 32) : Nat :=
  let c0_i32_1418 : BitVec 32 := 0#32
  let c1_i32_1417 : BitVec 32 := 1#32
  let v1293 : BitVec 32 := Scalar.muli v9 c1_i32_1417
  let v1294 : BitVec 32 := Scalar.addi c0_i32_1418 v1293
  v1294.toNat
def k0_dev57 (v13 : BitVec 32) : Nat :=
  let c0_i32_1442 : BitVec 32 := 0#32
  let c1_i32_1441 : BitVec 32 := 1#32
  let v1311 : BitVec 32 := Scalar.muli v13 c1_i32_1441
  let v1312 : BitVec 32 := Scalar.addi c0_i32_1442 v1311
  v1312.toNat
def k0_dev58 (v9 : BitVec 32) : Nat :=
  let c0_i32_1466 : BitVec 32 := 0#32
  let c1_i32_1465 : BitVec 32 := 1#32
  let v1329 : BitVec 32 := Scalar.muli v9 c1_i32_1465
  let v1330 : BitVec 32 := Scalar.addi c0_i32_1466 v1329
  v1330.toNat
def k0_off53 (v4 : BitVec 32) : Fin 1 → Nat :=
  let c13_i32_1471 : BitVec 32 := 13#32
  let v1339 : BitVec 32 := Scalar.subi v4 c13_i32_1471
  let c32_i32_1472 : BitVec 32 := 32#32
  let v1340 : BitVec 32 := Scalar.addi v1339 c32_i32_1472
  let c32_i32_1473 : BitVec 32 := 32#32
  let v1341 : BitVec 32 := Scalar.remsi v1340 c32_i32_1473
  let v1342 : Index := Scalar.indexCast v1341
  ![v1342.toNat]
def k0_off54 (v1343 : BitVec 32) : Fin 2 → Nat :=
  let c128_i32_1477 : BitVec 32 := 128#32
  let v1350 : BitVec 32 := Scalar.muli v1343 c128_i32_1477
  let v1351 : Index := Scalar.indexCast v1350
  let c0_1478 : Index := 0#32
  ![v1351.toNat, 0]

def k0_chk28 (v1343 : BitVec 32) : Prop :=
  (∀ a, (k0_off54 v1343) a + S128x256.size a ≤ S4096x256.size a)
theorem k0_off54_inb : ∀ (v1343 : BitVec 32) (k0_hw28 : k0_chk28 v1343), ∀ a, (k0_off54 v1343) a + S128x256.size a ≤ S4096x256.size a := fun v1343 k0_hw28 => k0_hw28

def k0_off55 (v4 : BitVec 32) : Fin 1 → Nat :=
  let c13_i32_1479 : BitVec 32 := 13#32
  let v1353 : BitVec 32 := Scalar.addi v4 c13_i32_1479
  let c32_i32_1480 : BitVec 32 := 32#32
  let v1354 : BitVec 32 := Scalar.remsi v1353 c32_i32_1480
  let v1355 : Index := Scalar.indexCast v1354
  ![v1355.toNat]
def k0_off56 (v1356 : BitVec 32) : Fin 2 → Nat :=
  let c128_i32_1484 : BitVec 32 := 128#32
  let v1363 : BitVec 32 := Scalar.muli v1356 c128_i32_1484
  let v1364 : Index := Scalar.indexCast v1363
  let c0_1485 : Index := 0#32
  ![v1364.toNat, 0]

def k0_chk29 (v1356 : BitVec 32) : Prop :=
  (∀ a, (k0_off56 v1356) a + S128x256.size a ≤ S4096x256.size a)
theorem k0_off56_inb : ∀ (v1356 : BitVec 32) (k0_hw29 : k0_chk29 v1356), ∀ a, (k0_off56 v1356) a + S128x256.size a ≤ S4096x256.size a := fun v1356 k0_hw29 => k0_hw29

def k0_dev59 (v13 : BitVec 32) : Nat :=
  let c0_i32_1504 : BitVec 32 := 0#32
  let c1_i32_1503 : BitVec 32 := 1#32
  let v1374 : BitVec 32 := Scalar.muli v13 c1_i32_1503
  let v1375 : BitVec 32 := Scalar.addi c0_i32_1504 v1374
  v1375.toNat
def k0_dev60 (v9 : BitVec 32) : Nat :=
  let c0_i32_1527 : BitVec 32 := 0#32
  let c1_i32_1526 : BitVec 32 := 1#32
  let v1392 : BitVec 32 := Scalar.muli v9 c1_i32_1526
  let v1393 : BitVec 32 := Scalar.addi c0_i32_1527 v1392
  v1393.toNat
def k0_dev61 (v13 : BitVec 32) : Nat :=
  let c0_i32_1551 : BitVec 32 := 0#32
  let c1_i32_1550 : BitVec 32 := 1#32
  let v1410 : BitVec 32 := Scalar.muli v13 c1_i32_1550
  let v1411 : BitVec 32 := Scalar.addi c0_i32_1551 v1410
  v1411.toNat
def k0_dev62 (v9 : BitVec 32) : Nat :=
  let c0_i32_1575 : BitVec 32 := 0#32
  let c1_i32_1574 : BitVec 32 := 1#32
  let v1428 : BitVec 32 := Scalar.muli v9 c1_i32_1574
  let v1429 : BitVec 32 := Scalar.addi c0_i32_1575 v1428
  v1429.toNat
def k0_off57 (v4 : BitVec 32) : Fin 1 → Nat :=
  let c14_i32_1580 : BitVec 32 := 14#32
  let v1438 : BitVec 32 := Scalar.subi v4 c14_i32_1580
  let c32_i32_1581 : BitVec 32 := 32#32
  let v1439 : BitVec 32 := Scalar.addi v1438 c32_i32_1581
  let c32_i32_1582 : BitVec 32 := 32#32
  let v1440 : BitVec 32 := Scalar.remsi v1439 c32_i32_1582
  let v1441 : Index := Scalar.indexCast v1440
  ![v1441.toNat]
def k0_off58 (v1442 : BitVec 32) : Fin 2 → Nat :=
  let c128_i32_1586 : BitVec 32 := 128#32
  let v1449 : BitVec 32 := Scalar.muli v1442 c128_i32_1586
  let v1450 : Index := Scalar.indexCast v1449
  let c0_1587 : Index := 0#32
  ![v1450.toNat, 0]

def k0_chk30 (v1442 : BitVec 32) : Prop :=
  (∀ a, (k0_off58 v1442) a + S128x256.size a ≤ S4096x256.size a)
theorem k0_off58_inb : ∀ (v1442 : BitVec 32) (k0_hw30 : k0_chk30 v1442), ∀ a, (k0_off58 v1442) a + S128x256.size a ≤ S4096x256.size a := fun v1442 k0_hw30 => k0_hw30

def k0_off59 (v4 : BitVec 32) : Fin 1 → Nat :=
  let c14_i32_1588 : BitVec 32 := 14#32
  let v1452 : BitVec 32 := Scalar.addi v4 c14_i32_1588
  let c32_i32_1589 : BitVec 32 := 32#32
  let v1453 : BitVec 32 := Scalar.remsi v1452 c32_i32_1589
  let v1454 : Index := Scalar.indexCast v1453
  ![v1454.toNat]
def k0_off60 (v1455 : BitVec 32) : Fin 2 → Nat :=
  let c128_i32_1593 : BitVec 32 := 128#32
  let v1462 : BitVec 32 := Scalar.muli v1455 c128_i32_1593
  let v1463 : Index := Scalar.indexCast v1462
  let c0_1594 : Index := 0#32
  ![v1463.toNat, 0]

def k0_chk31 (v1455 : BitVec 32) : Prop :=
  (∀ a, (k0_off60 v1455) a + S128x256.size a ≤ S4096x256.size a)
theorem k0_off60_inb : ∀ (v1455 : BitVec 32) (k0_hw31 : k0_chk31 v1455), ∀ a, (k0_off60 v1455) a + S128x256.size a ≤ S4096x256.size a := fun v1455 k0_hw31 => k0_hw31

def k0_dev63 (v13 : BitVec 32) : Nat :=
  let c0_i32_1613 : BitVec 32 := 0#32
  let c1_i32_1612 : BitVec 32 := 1#32
  let v1473 : BitVec 32 := Scalar.muli v13 c1_i32_1612
  let v1474 : BitVec 32 := Scalar.addi c0_i32_1613 v1473
  v1474.toNat

def k0_chk3 (v13 : BitVec 32) : Prop :=
  ((k0_dev2 v13) < nD) ∧
  ((k0_dev3 v13) < nD) ∧
  ((k0_dev5 v13) < nD) ∧
  ((k0_dev7 v13) < nD) ∧
  ((k0_dev9 v13) < nD) ∧
  ((k0_dev11 v13) < nD) ∧
  ((k0_dev13 v13) < nD) ∧
  ((k0_dev15 v13) < nD) ∧
  ((k0_dev17 v13) < nD) ∧
  ((k0_dev19 v13) < nD) ∧
  ((k0_dev21 v13) < nD) ∧
  ((k0_dev23 v13) < nD) ∧
  ((k0_dev25 v13) < nD) ∧
  ((k0_dev27 v13) < nD) ∧
  ((k0_dev29 v13) < nD) ∧
  ((k0_dev31 v13) < nD) ∧
  ((k0_dev33 v13) < nD) ∧
  ((k0_dev35 v13) < nD) ∧
  ((k0_dev37 v13) < nD) ∧
  ((k0_dev39 v13) < nD) ∧
  ((k0_dev41 v13) < nD) ∧
  ((k0_dev43 v13) < nD) ∧
  ((k0_dev45 v13) < nD) ∧
  ((k0_dev47 v13) < nD) ∧
  ((k0_dev49 v13) < nD) ∧
  ((k0_dev51 v13) < nD) ∧
  ((k0_dev53 v13) < nD) ∧
  ((k0_dev55 v13) < nD) ∧
  ((k0_dev57 v13) < nD) ∧
  ((k0_dev59 v13) < nD) ∧
  ((k0_dev61 v13) < nD) ∧
  ((k0_dev63 v13) < nD)
theorem k0_dev2_lt : ∀ (v13 : BitVec 32) (k0_hw3 : k0_chk3 v13), (k0_dev2 v13) < nD := fun v13 k0_hw3 => k0_hw3.1
theorem k0_dev3_lt : ∀ (v13 : BitVec 32) (k0_hw3 : k0_chk3 v13), (k0_dev3 v13) < nD := fun v13 k0_hw3 => k0_hw3.2.1
theorem k0_dev5_lt : ∀ (v13 : BitVec 32) (k0_hw3 : k0_chk3 v13), (k0_dev5 v13) < nD := fun v13 k0_hw3 => k0_hw3.2.2.1
theorem k0_dev7_lt : ∀ (v13 : BitVec 32) (k0_hw3 : k0_chk3 v13), (k0_dev7 v13) < nD := fun v13 k0_hw3 => k0_hw3.2.2.2.1
theorem k0_dev9_lt : ∀ (v13 : BitVec 32) (k0_hw3 : k0_chk3 v13), (k0_dev9 v13) < nD := fun v13 k0_hw3 => k0_hw3.2.2.2.2.1
theorem k0_dev11_lt : ∀ (v13 : BitVec 32) (k0_hw3 : k0_chk3 v13), (k0_dev11 v13) < nD := fun v13 k0_hw3 => k0_hw3.2.2.2.2.2.1
theorem k0_dev13_lt : ∀ (v13 : BitVec 32) (k0_hw3 : k0_chk3 v13), (k0_dev13 v13) < nD := fun v13 k0_hw3 => k0_hw3.2.2.2.2.2.2.1
theorem k0_dev15_lt : ∀ (v13 : BitVec 32) (k0_hw3 : k0_chk3 v13), (k0_dev15 v13) < nD := fun v13 k0_hw3 => k0_hw3.2.2.2.2.2.2.2.1
theorem k0_dev17_lt : ∀ (v13 : BitVec 32) (k0_hw3 : k0_chk3 v13), (k0_dev17 v13) < nD := fun v13 k0_hw3 => k0_hw3.2.2.2.2.2.2.2.2.1
theorem k0_dev19_lt : ∀ (v13 : BitVec 32) (k0_hw3 : k0_chk3 v13), (k0_dev19 v13) < nD := fun v13 k0_hw3 => k0_hw3.2.2.2.2.2.2.2.2.2.1
theorem k0_dev21_lt : ∀ (v13 : BitVec 32) (k0_hw3 : k0_chk3 v13), (k0_dev21 v13) < nD := fun v13 k0_hw3 => k0_hw3.2.2.2.2.2.2.2.2.2.2.1
theorem k0_dev23_lt : ∀ (v13 : BitVec 32) (k0_hw3 : k0_chk3 v13), (k0_dev23 v13) < nD := fun v13 k0_hw3 => k0_hw3.2.2.2.2.2.2.2.2.2.2.2.1
theorem k0_dev25_lt : ∀ (v13 : BitVec 32) (k0_hw3 : k0_chk3 v13), (k0_dev25 v13) < nD := fun v13 k0_hw3 => k0_hw3.2.2.2.2.2.2.2.2.2.2.2.2.1
theorem k0_dev27_lt : ∀ (v13 : BitVec 32) (k0_hw3 : k0_chk3 v13), (k0_dev27 v13) < nD := fun v13 k0_hw3 => k0_hw3.2.2.2.2.2.2.2.2.2.2.2.2.2.1
theorem k0_dev29_lt : ∀ (v13 : BitVec 32) (k0_hw3 : k0_chk3 v13), (k0_dev29 v13) < nD := fun v13 k0_hw3 => k0_hw3.2.2.2.2.2.2.2.2.2.2.2.2.2.2.1
theorem k0_dev31_lt : ∀ (v13 : BitVec 32) (k0_hw3 : k0_chk3 v13), (k0_dev31 v13) < nD := fun v13 k0_hw3 => k0_hw3.2.2.2.2.2.2.2.2.2.2.2.2.2.2.2.1
theorem k0_dev33_lt : ∀ (v13 : BitVec 32) (k0_hw3 : k0_chk3 v13), (k0_dev33 v13) < nD := fun v13 k0_hw3 => k0_hw3.2.2.2.2.2.2.2.2.2.2.2.2.2.2.2.2.1
theorem k0_dev35_lt : ∀ (v13 : BitVec 32) (k0_hw3 : k0_chk3 v13), (k0_dev35 v13) < nD := fun v13 k0_hw3 => k0_hw3.2.2.2.2.2.2.2.2.2.2.2.2.2.2.2.2.2.1
theorem k0_dev37_lt : ∀ (v13 : BitVec 32) (k0_hw3 : k0_chk3 v13), (k0_dev37 v13) < nD := fun v13 k0_hw3 => k0_hw3.2.2.2.2.2.2.2.2.2.2.2.2.2.2.2.2.2.2.1
theorem k0_dev39_lt : ∀ (v13 : BitVec 32) (k0_hw3 : k0_chk3 v13), (k0_dev39 v13) < nD := fun v13 k0_hw3 => k0_hw3.2.2.2.2.2.2.2.2.2.2.2.2.2.2.2.2.2.2.2.1
theorem k0_dev41_lt : ∀ (v13 : BitVec 32) (k0_hw3 : k0_chk3 v13), (k0_dev41 v13) < nD := fun v13 k0_hw3 => k0_hw3.2.2.2.2.2.2.2.2.2.2.2.2.2.2.2.2.2.2.2.2.1
theorem k0_dev43_lt : ∀ (v13 : BitVec 32) (k0_hw3 : k0_chk3 v13), (k0_dev43 v13) < nD := fun v13 k0_hw3 => k0_hw3.2.2.2.2.2.2.2.2.2.2.2.2.2.2.2.2.2.2.2.2.2.1
theorem k0_dev45_lt : ∀ (v13 : BitVec 32) (k0_hw3 : k0_chk3 v13), (k0_dev45 v13) < nD := fun v13 k0_hw3 => k0_hw3.2.2.2.2.2.2.2.2.2.2.2.2.2.2.2.2.2.2.2.2.2.2.1
theorem k0_dev47_lt : ∀ (v13 : BitVec 32) (k0_hw3 : k0_chk3 v13), (k0_dev47 v13) < nD := fun v13 k0_hw3 => k0_hw3.2.2.2.2.2.2.2.2.2.2.2.2.2.2.2.2.2.2.2.2.2.2.2.1
theorem k0_dev49_lt : ∀ (v13 : BitVec 32) (k0_hw3 : k0_chk3 v13), (k0_dev49 v13) < nD := fun v13 k0_hw3 => k0_hw3.2.2.2.2.2.2.2.2.2.2.2.2.2.2.2.2.2.2.2.2.2.2.2.2.1
theorem k0_dev51_lt : ∀ (v13 : BitVec 32) (k0_hw3 : k0_chk3 v13), (k0_dev51 v13) < nD := fun v13 k0_hw3 => k0_hw3.2.2.2.2.2.2.2.2.2.2.2.2.2.2.2.2.2.2.2.2.2.2.2.2.2.1
theorem k0_dev53_lt : ∀ (v13 : BitVec 32) (k0_hw3 : k0_chk3 v13), (k0_dev53 v13) < nD := fun v13 k0_hw3 => k0_hw3.2.2.2.2.2.2.2.2.2.2.2.2.2.2.2.2.2.2.2.2.2.2.2.2.2.2.1
theorem k0_dev55_lt : ∀ (v13 : BitVec 32) (k0_hw3 : k0_chk3 v13), (k0_dev55 v13) < nD := fun v13 k0_hw3 => k0_hw3.2.2.2.2.2.2.2.2.2.2.2.2.2.2.2.2.2.2.2.2.2.2.2.2.2.2.2.1
theorem k0_dev57_lt : ∀ (v13 : BitVec 32) (k0_hw3 : k0_chk3 v13), (k0_dev57 v13) < nD := fun v13 k0_hw3 => k0_hw3.2.2.2.2.2.2.2.2.2.2.2.2.2.2.2.2.2.2.2.2.2.2.2.2.2.2.2.2.1
theorem k0_dev59_lt : ∀ (v13 : BitVec 32) (k0_hw3 : k0_chk3 v13), (k0_dev59 v13) < nD := fun v13 k0_hw3 => k0_hw3.2.2.2.2.2.2.2.2.2.2.2.2.2.2.2.2.2.2.2.2.2.2.2.2.2.2.2.2.2.1
theorem k0_dev61_lt : ∀ (v13 : BitVec 32) (k0_hw3 : k0_chk3 v13), (k0_dev61 v13) < nD := fun v13 k0_hw3 => k0_hw3.2.2.2.2.2.2.2.2.2.2.2.2.2.2.2.2.2.2.2.2.2.2.2.2.2.2.2.2.2.2.1
theorem k0_dev63_lt : ∀ (v13 : BitVec 32) (k0_hw3 : k0_chk3 v13), (k0_dev63 v13) < nD := fun v13 k0_hw3 => k0_hw3.2.2.2.2.2.2.2.2.2.2.2.2.2.2.2.2.2.2.2.2.2.2.2.2.2.2.2.2.2.2.2

def k0_dev64 (v9 : BitVec 32) : Nat :=
  let c0_i32_1661 : BitVec 32 := 0#32
  let c1_i32_1660 : BitVec 32 := 1#32
  let v1507 : BitVec 32 := Scalar.muli v9 c1_i32_1660
  let v1508 : BitVec 32 := Scalar.addi c0_i32_1661 v1507
  v1508.toNat

def k0_chk2 (v9 : BitVec 32) : Prop :=
  ((k0_dev1 v9) < nD) ∧
  ((k0_dev4 v9) < nD) ∧
  ((k0_dev6 v9) < nD) ∧
  ((k0_dev8 v9) < nD) ∧
  ((k0_dev10 v9) < nD) ∧
  ((k0_dev12 v9) < nD) ∧
  ((k0_dev14 v9) < nD) ∧
  ((k0_dev16 v9) < nD) ∧
  ((k0_dev18 v9) < nD) ∧
  ((k0_dev20 v9) < nD) ∧
  ((k0_dev22 v9) < nD) ∧
  ((k0_dev24 v9) < nD) ∧
  ((k0_dev26 v9) < nD) ∧
  ((k0_dev28 v9) < nD) ∧
  ((k0_dev30 v9) < nD) ∧
  ((k0_dev32 v9) < nD) ∧
  ((k0_dev34 v9) < nD) ∧
  ((k0_dev36 v9) < nD) ∧
  ((k0_dev38 v9) < nD) ∧
  ((k0_dev40 v9) < nD) ∧
  ((k0_dev42 v9) < nD) ∧
  ((k0_dev44 v9) < nD) ∧
  ((k0_dev46 v9) < nD) ∧
  ((k0_dev48 v9) < nD) ∧
  ((k0_dev50 v9) < nD) ∧
  ((k0_dev52 v9) < nD) ∧
  ((k0_dev54 v9) < nD) ∧
  ((k0_dev56 v9) < nD) ∧
  ((k0_dev58 v9) < nD) ∧
  ((k0_dev60 v9) < nD) ∧
  ((k0_dev62 v9) < nD) ∧
  ((k0_dev64 v9) < nD)
theorem k0_dev1_lt : ∀ (v9 : BitVec 32) (k0_hw2 : k0_chk2 v9), (k0_dev1 v9) < nD := fun v9 k0_hw2 => k0_hw2.1
theorem k0_dev4_lt : ∀ (v9 : BitVec 32) (k0_hw2 : k0_chk2 v9), (k0_dev4 v9) < nD := fun v9 k0_hw2 => k0_hw2.2.1
theorem k0_dev6_lt : ∀ (v9 : BitVec 32) (k0_hw2 : k0_chk2 v9), (k0_dev6 v9) < nD := fun v9 k0_hw2 => k0_hw2.2.2.1
theorem k0_dev8_lt : ∀ (v9 : BitVec 32) (k0_hw2 : k0_chk2 v9), (k0_dev8 v9) < nD := fun v9 k0_hw2 => k0_hw2.2.2.2.1
theorem k0_dev10_lt : ∀ (v9 : BitVec 32) (k0_hw2 : k0_chk2 v9), (k0_dev10 v9) < nD := fun v9 k0_hw2 => k0_hw2.2.2.2.2.1
theorem k0_dev12_lt : ∀ (v9 : BitVec 32) (k0_hw2 : k0_chk2 v9), (k0_dev12 v9) < nD := fun v9 k0_hw2 => k0_hw2.2.2.2.2.2.1
theorem k0_dev14_lt : ∀ (v9 : BitVec 32) (k0_hw2 : k0_chk2 v9), (k0_dev14 v9) < nD := fun v9 k0_hw2 => k0_hw2.2.2.2.2.2.2.1
theorem k0_dev16_lt : ∀ (v9 : BitVec 32) (k0_hw2 : k0_chk2 v9), (k0_dev16 v9) < nD := fun v9 k0_hw2 => k0_hw2.2.2.2.2.2.2.2.1
theorem k0_dev18_lt : ∀ (v9 : BitVec 32) (k0_hw2 : k0_chk2 v9), (k0_dev18 v9) < nD := fun v9 k0_hw2 => k0_hw2.2.2.2.2.2.2.2.2.1
theorem k0_dev20_lt : ∀ (v9 : BitVec 32) (k0_hw2 : k0_chk2 v9), (k0_dev20 v9) < nD := fun v9 k0_hw2 => k0_hw2.2.2.2.2.2.2.2.2.2.1
theorem k0_dev22_lt : ∀ (v9 : BitVec 32) (k0_hw2 : k0_chk2 v9), (k0_dev22 v9) < nD := fun v9 k0_hw2 => k0_hw2.2.2.2.2.2.2.2.2.2.2.1
theorem k0_dev24_lt : ∀ (v9 : BitVec 32) (k0_hw2 : k0_chk2 v9), (k0_dev24 v9) < nD := fun v9 k0_hw2 => k0_hw2.2.2.2.2.2.2.2.2.2.2.2.1
theorem k0_dev26_lt : ∀ (v9 : BitVec 32) (k0_hw2 : k0_chk2 v9), (k0_dev26 v9) < nD := fun v9 k0_hw2 => k0_hw2.2.2.2.2.2.2.2.2.2.2.2.2.1
theorem k0_dev28_lt : ∀ (v9 : BitVec 32) (k0_hw2 : k0_chk2 v9), (k0_dev28 v9) < nD := fun v9 k0_hw2 => k0_hw2.2.2.2.2.2.2.2.2.2.2.2.2.2.1
theorem k0_dev30_lt : ∀ (v9 : BitVec 32) (k0_hw2 : k0_chk2 v9), (k0_dev30 v9) < nD := fun v9 k0_hw2 => k0_hw2.2.2.2.2.2.2.2.2.2.2.2.2.2.2.1
theorem k0_dev32_lt : ∀ (v9 : BitVec 32) (k0_hw2 : k0_chk2 v9), (k0_dev32 v9) < nD := fun v9 k0_hw2 => k0_hw2.2.2.2.2.2.2.2.2.2.2.2.2.2.2.2.1
theorem k0_dev34_lt : ∀ (v9 : BitVec 32) (k0_hw2 : k0_chk2 v9), (k0_dev34 v9) < nD := fun v9 k0_hw2 => k0_hw2.2.2.2.2.2.2.2.2.2.2.2.2.2.2.2.2.1
theorem k0_dev36_lt : ∀ (v9 : BitVec 32) (k0_hw2 : k0_chk2 v9), (k0_dev36 v9) < nD := fun v9 k0_hw2 => k0_hw2.2.2.2.2.2.2.2.2.2.2.2.2.2.2.2.2.2.1
theorem k0_dev38_lt : ∀ (v9 : BitVec 32) (k0_hw2 : k0_chk2 v9), (k0_dev38 v9) < nD := fun v9 k0_hw2 => k0_hw2.2.2.2.2.2.2.2.2.2.2.2.2.2.2.2.2.2.2.1
theorem k0_dev40_lt : ∀ (v9 : BitVec 32) (k0_hw2 : k0_chk2 v9), (k0_dev40 v9) < nD := fun v9 k0_hw2 => k0_hw2.2.2.2.2.2.2.2.2.2.2.2.2.2.2.2.2.2.2.2.1
theorem k0_dev42_lt : ∀ (v9 : BitVec 32) (k0_hw2 : k0_chk2 v9), (k0_dev42 v9) < nD := fun v9 k0_hw2 => k0_hw2.2.2.2.2.2.2.2.2.2.2.2.2.2.2.2.2.2.2.2.2.1
theorem k0_dev44_lt : ∀ (v9 : BitVec 32) (k0_hw2 : k0_chk2 v9), (k0_dev44 v9) < nD := fun v9 k0_hw2 => k0_hw2.2.2.2.2.2.2.2.2.2.2.2.2.2.2.2.2.2.2.2.2.2.1
theorem k0_dev46_lt : ∀ (v9 : BitVec 32) (k0_hw2 : k0_chk2 v9), (k0_dev46 v9) < nD := fun v9 k0_hw2 => k0_hw2.2.2.2.2.2.2.2.2.2.2.2.2.2.2.2.2.2.2.2.2.2.2.1
theorem k0_dev48_lt : ∀ (v9 : BitVec 32) (k0_hw2 : k0_chk2 v9), (k0_dev48 v9) < nD := fun v9 k0_hw2 => k0_hw2.2.2.2.2.2.2.2.2.2.2.2.2.2.2.2.2.2.2.2.2.2.2.2.1
theorem k0_dev50_lt : ∀ (v9 : BitVec 32) (k0_hw2 : k0_chk2 v9), (k0_dev50 v9) < nD := fun v9 k0_hw2 => k0_hw2.2.2.2.2.2.2.2.2.2.2.2.2.2.2.2.2.2.2.2.2.2.2.2.2.1
theorem k0_dev52_lt : ∀ (v9 : BitVec 32) (k0_hw2 : k0_chk2 v9), (k0_dev52 v9) < nD := fun v9 k0_hw2 => k0_hw2.2.2.2.2.2.2.2.2.2.2.2.2.2.2.2.2.2.2.2.2.2.2.2.2.2.1
theorem k0_dev54_lt : ∀ (v9 : BitVec 32) (k0_hw2 : k0_chk2 v9), (k0_dev54 v9) < nD := fun v9 k0_hw2 => k0_hw2.2.2.2.2.2.2.2.2.2.2.2.2.2.2.2.2.2.2.2.2.2.2.2.2.2.2.1
theorem k0_dev56_lt : ∀ (v9 : BitVec 32) (k0_hw2 : k0_chk2 v9), (k0_dev56 v9) < nD := fun v9 k0_hw2 => k0_hw2.2.2.2.2.2.2.2.2.2.2.2.2.2.2.2.2.2.2.2.2.2.2.2.2.2.2.2.1
theorem k0_dev58_lt : ∀ (v9 : BitVec 32) (k0_hw2 : k0_chk2 v9), (k0_dev58 v9) < nD := fun v9 k0_hw2 => k0_hw2.2.2.2.2.2.2.2.2.2.2.2.2.2.2.2.2.2.2.2.2.2.2.2.2.2.2.2.2.1
theorem k0_dev60_lt : ∀ (v9 : BitVec 32) (k0_hw2 : k0_chk2 v9), (k0_dev60 v9) < nD := fun v9 k0_hw2 => k0_hw2.2.2.2.2.2.2.2.2.2.2.2.2.2.2.2.2.2.2.2.2.2.2.2.2.2.2.2.2.2.1
theorem k0_dev62_lt : ∀ (v9 : BitVec 32) (k0_hw2 : k0_chk2 v9), (k0_dev62 v9) < nD := fun v9 k0_hw2 => k0_hw2.2.2.2.2.2.2.2.2.2.2.2.2.2.2.2.2.2.2.2.2.2.2.2.2.2.2.2.2.2.2.1
theorem k0_dev64_lt : ∀ (v9 : BitVec 32) (k0_hw2 : k0_chk2 v9), (k0_dev64 v9) < nD := fun v9 k0_hw2 => k0_hw2.2.2.2.2.2.2.2.2.2.2.2.2.2.2.2.2.2.2.2.2.2.2.2.2.2.2.2.2.2.2.2

def k0_off61 (v4 : BitVec 32) : Fin 1 → Nat :=
  let c15_i32_1666 : BitVec 32 := 15#32
  let v1517 : BitVec 32 := Scalar.subi v4 c15_i32_1666
  let c32_i32_1667 : BitVec 32 := 32#32
  let v1518 : BitVec 32 := Scalar.addi v1517 c32_i32_1667
  let c32_i32_1668 : BitVec 32 := 32#32
  let v1519 : BitVec 32 := Scalar.remsi v1518 c32_i32_1668
  let v1520 : Index := Scalar.indexCast v1519
  ![v1520.toNat]
def k0_off62 (v1521 : BitVec 32) : Fin 2 → Nat :=
  let c128_i32_1672 : BitVec 32 := 128#32
  let v1528 : BitVec 32 := Scalar.muli v1521 c128_i32_1672
  let v1529 : Index := Scalar.indexCast v1528
  let c0_1673 : Index := 0#32
  ![v1529.toNat, 0]

def k0_chk32 (v1521 : BitVec 32) : Prop :=
  (∀ a, (k0_off62 v1521) a + S128x256.size a ≤ S4096x256.size a)
theorem k0_off62_inb : ∀ (v1521 : BitVec 32) (k0_hw32 : k0_chk32 v1521), ∀ a, (k0_off62 v1521) a + S128x256.size a ≤ S4096x256.size a := fun v1521 k0_hw32 => k0_hw32

def k0_off63 (v4 : BitVec 32) : Fin 1 → Nat :=
  let c15_i32_1674 : BitVec 32 := 15#32
  let v1531 : BitVec 32 := Scalar.addi v4 c15_i32_1674
  let c32_i32_1675 : BitVec 32 := 32#32
  let v1532 : BitVec 32 := Scalar.remsi v1531 c32_i32_1675
  let v1533 : Index := Scalar.indexCast v1532
  ![v1533.toNat]
def k0_off64 (v1534 : BitVec 32) : Fin 2 → Nat :=
  let c128_i32_1679 : BitVec 32 := 128#32
  let v1541 : BitVec 32 := Scalar.muli v1534 c128_i32_1679
  let v1542 : Index := Scalar.indexCast v1541
  let c0_1680 : Index := 0#32
  ![v1542.toNat, 0]

def k0_chk33 (v1534 : BitVec 32) : Prop :=
  (∀ a, (k0_off64 v1534) a + S128x256.size a ≤ S4096x256.size a)
theorem k0_off64_inb : ∀ (v1534 : BitVec 32) (k0_hw33 : k0_chk33 v1534), ∀ a, (k0_off64 v1534) a + S128x256.size a ≤ S4096x256.size a := fun v1534 k0_hw33 => k0_hw33

def k0_off65 (v4 : BitVec 32) : Fin 1 → Nat :=
  let c16_i32_1705 : BitVec 32 := 16#32
  let v1560 : BitVec 32 := Scalar.addi v4 c16_i32_1705
  let c32_i32_1706 : BitVec 32 := 32#32
  let v1561 : BitVec 32 := Scalar.remsi v1560 c32_i32_1706
  let v1562 : Index := Scalar.indexCast v1561
  ![v1562.toNat]

def k0_chk1_0 (v4 : BitVec 32) : Prop :=
  (∀ a, (k0_off2 v4) a + S1.size a ≤ S32.size a) ∧
  (∀ a, (k0_off3 v4) a + S1.size a ≤ S32.size a) ∧
  (∀ a, (k0_off5 v4) a + S1.size a ≤ S32.size a) ∧
  (∀ a, (k0_off7 v4) a + S1.size a ≤ S32.size a) ∧
  (∀ a, (k0_off9 v4) a + S1.size a ≤ S32.size a) ∧
  (∀ a, (k0_off11 v4) a + S1.size a ≤ S32.size a) ∧
  (∀ a, (k0_off13 v4) a + S1.size a ≤ S32.size a) ∧
  (∀ a, (k0_off15 v4) a + S1.size a ≤ S32.size a) ∧
  (∀ a, (k0_off17 v4) a + S1.size a ≤ S32.size a) ∧
  (∀ a, (k0_off19 v4) a + S1.size a ≤ S32.size a) ∧
  (∀ a, (k0_off21 v4) a + S1.size a ≤ S32.size a) ∧
  (∀ a, (k0_off23 v4) a + S1.size a ≤ S32.size a) ∧
  (∀ a, (k0_off25 v4) a + S1.size a ≤ S32.size a) ∧
  (∀ a, (k0_off27 v4) a + S1.size a ≤ S32.size a) ∧
  (∀ a, (k0_off29 v4) a + S1.size a ≤ S32.size a) ∧
  (∀ a, (k0_off31 v4) a + S1.size a ≤ S32.size a) ∧
  (∀ a, (k0_off33 v4) a + S1.size a ≤ S32.size a) ∧
  (∀ a, (k0_off35 v4) a + S1.size a ≤ S32.size a) ∧
  (∀ a, (k0_off37 v4) a + S1.size a ≤ S32.size a) ∧
  (∀ a, (k0_off39 v4) a + S1.size a ≤ S32.size a) ∧
  (∀ a, (k0_off41 v4) a + S1.size a ≤ S32.size a) ∧
  (∀ a, (k0_off43 v4) a + S1.size a ≤ S32.size a) ∧
  (∀ a, (k0_off45 v4) a + S1.size a ≤ S32.size a) ∧
  (∀ a, (k0_off47 v4) a + S1.size a ≤ S32.size a) ∧
  (∀ a, (k0_off49 v4) a + S1.size a ≤ S32.size a) ∧
  (∀ a, (k0_off51 v4) a + S1.size a ≤ S32.size a) ∧
  (∀ a, (k0_off53 v4) a + S1.size a ≤ S32.size a) ∧
  (∀ a, (k0_off55 v4) a + S1.size a ≤ S32.size a) ∧
  (∀ a, (k0_off57 v4) a + S1.size a ≤ S32.size a) ∧
  (∀ a, (k0_off59 v4) a + S1.size a ≤ S32.size a) ∧
  (∀ a, (k0_off61 v4) a + S1.size a ≤ S32.size a) ∧
  (∀ a, (k0_off63 v4) a + S1.size a ≤ S32.size a)
def k0_chk1_1 (v4 : BitVec 32) : Prop :=
  (∀ a, (k0_off65 v4) a + S1.size a ≤ S32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off5_inb : ∀ (v4 : BitVec 32) (k0_hw1 : k0_chk1 v4), ∀ a, (k0_off5 v4) a + S1.size a ≤ S32.size a := fun v4 k0_hw1 => k0_hw1.1.2.2.1
theorem k0_off7_inb : ∀ (v4 : BitVec 32) (k0_hw1 : k0_chk1 v4), ∀ a, (k0_off7 v4) a + S1.size a ≤ S32.size a := fun v4 k0_hw1 => k0_hw1.1.2.2.2.1
theorem k0_off9_inb : ∀ (v4 : BitVec 32) (k0_hw1 : k0_chk1 v4), ∀ a, (k0_off9 v4) a + S1.size a ≤ S32.size a := fun v4 k0_hw1 => k0_hw1.1.2.2.2.2.1
theorem k0_off11_inb : ∀ (v4 : BitVec 32) (k0_hw1 : k0_chk1 v4), ∀ a, (k0_off11 v4) a + S1.size a ≤ S32.size a := fun v4 k0_hw1 => k0_hw1.1.2.2.2.2.2.1
theorem k0_off13_inb : ∀ (v4 : BitVec 32) (k0_hw1 : k0_chk1 v4), ∀ a, (k0_off13 v4) a + S1.size a ≤ S32.size a := fun v4 k0_hw1 => k0_hw1.1.2.2.2.2.2.2.1
theorem k0_off15_inb : ∀ (v4 : BitVec 32) (k0_hw1 : k0_chk1 v4), ∀ a, (k0_off15 v4) a + S1.size a ≤ S32.size a := fun v4 k0_hw1 => k0_hw1.1.2.2.2.2.2.2.2.1
theorem k0_off17_inb : ∀ (v4 : BitVec 32) (k0_hw1 : k0_chk1 v4), ∀ a, (k0_off17 v4) a + S1.size a ≤ S32.size a := fun v4 k0_hw1 => k0_hw1.1.2.2.2.2.2.2.2.2.1
theorem k0_off19_inb : ∀ (v4 : BitVec 32) (k0_hw1 : k0_chk1 v4), ∀ a, (k0_off19 v4) a + S1.size a ≤ S32.size a := fun v4 k0_hw1 => k0_hw1.1.2.2.2.2.2.2.2.2.2.1
theorem k0_off21_inb : ∀ (v4 : BitVec 32) (k0_hw1 : k0_chk1 v4), ∀ a, (k0_off21 v4) a + S1.size a ≤ S32.size a := fun v4 k0_hw1 => k0_hw1.1.2.2.2.2.2.2.2.2.2.2.1
theorem k0_off23_inb : ∀ (v4 : BitVec 32) (k0_hw1 : k0_chk1 v4), ∀ a, (k0_off23 v4) a + S1.size a ≤ S32.size a := fun v4 k0_hw1 => k0_hw1.1.2.2.2.2.2.2.2.2.2.2.2.1
theorem k0_off25_inb : ∀ (v4 : BitVec 32) (k0_hw1 : k0_chk1 v4), ∀ a, (k0_off25 v4) a + S1.size a ≤ S32.size a := fun v4 k0_hw1 => k0_hw1.1.2.2.2.2.2.2.2.2.2.2.2.2.1
theorem k0_off27_inb : ∀ (v4 : BitVec 32) (k0_hw1 : k0_chk1 v4), ∀ a, (k0_off27 v4) a + S1.size a ≤ S32.size a := fun v4 k0_hw1 => k0_hw1.1.2.2.2.2.2.2.2.2.2.2.2.2.2.1
theorem k0_off29_inb : ∀ (v4 : BitVec 32) (k0_hw1 : k0_chk1 v4), ∀ a, (k0_off29 v4) a + S1.size a ≤ S32.size a := fun v4 k0_hw1 => k0_hw1.1.2.2.2.2.2.2.2.2.2.2.2.2.2.2.1
theorem k0_off31_inb : ∀ (v4 : BitVec 32) (k0_hw1 : k0_chk1 v4), ∀ a, (k0_off31 v4) a + S1.size a ≤ S32.size a := fun v4 k0_hw1 => k0_hw1.1.2.2.2.2.2.2.2.2.2.2.2.2.2.2.2.1
theorem k0_off33_inb : ∀ (v4 : BitVec 32) (k0_hw1 : k0_chk1 v4), ∀ a, (k0_off33 v4) a + S1.size a ≤ S32.size a := fun v4 k0_hw1 => k0_hw1.1.2.2.2.2.2.2.2.2.2.2.2.2.2.2.2.2.1
theorem k0_off35_inb : ∀ (v4 : BitVec 32) (k0_hw1 : k0_chk1 v4), ∀ a, (k0_off35 v4) a + S1.size a ≤ S32.size a := fun v4 k0_hw1 => k0_hw1.1.2.2.2.2.2.2.2.2.2.2.2.2.2.2.2.2.2.1
theorem k0_off37_inb : ∀ (v4 : BitVec 32) (k0_hw1 : k0_chk1 v4), ∀ a, (k0_off37 v4) a + S1.size a ≤ S32.size a := fun v4 k0_hw1 => k0_hw1.1.2.2.2.2.2.2.2.2.2.2.2.2.2.2.2.2.2.2.1
theorem k0_off39_inb : ∀ (v4 : BitVec 32) (k0_hw1 : k0_chk1 v4), ∀ a, (k0_off39 v4) a + S1.size a ≤ S32.size a := fun v4 k0_hw1 => k0_hw1.1.2.2.2.2.2.2.2.2.2.2.2.2.2.2.2.2.2.2.2.1
theorem k0_off41_inb : ∀ (v4 : BitVec 32) (k0_hw1 : k0_chk1 v4), ∀ a, (k0_off41 v4) a + S1.size a ≤ S32.size a := fun v4 k0_hw1 => k0_hw1.1.2.2.2.2.2.2.2.2.2.2.2.2.2.2.2.2.2.2.2.2.1
theorem k0_off43_inb : ∀ (v4 : BitVec 32) (k0_hw1 : k0_chk1 v4), ∀ a, (k0_off43 v4) a + S1.size a ≤ S32.size a := fun v4 k0_hw1 => k0_hw1.1.2.2.2.2.2.2.2.2.2.2.2.2.2.2.2.2.2.2.2.2.2.1
theorem k0_off45_inb : ∀ (v4 : BitVec 32) (k0_hw1 : k0_chk1 v4), ∀ a, (k0_off45 v4) a + S1.size a ≤ S32.size a := fun v4 k0_hw1 => k0_hw1.1.2.2.2.2.2.2.2.2.2.2.2.2.2.2.2.2.2.2.2.2.2.2.1
theorem k0_off47_inb : ∀ (v4 : BitVec 32) (k0_hw1 : k0_chk1 v4), ∀ a, (k0_off47 v4) a + S1.size a ≤ S32.size a := fun v4 k0_hw1 => k0_hw1.1.2.2.2.2.2.2.2.2.2.2.2.2.2.2.2.2.2.2.2.2.2.2.2.1
theorem k0_off49_inb : ∀ (v4 : BitVec 32) (k0_hw1 : k0_chk1 v4), ∀ a, (k0_off49 v4) a + S1.size a ≤ S32.size a := fun v4 k0_hw1 => k0_hw1.1.2.2.2.2.2.2.2.2.2.2.2.2.2.2.2.2.2.2.2.2.2.2.2.2.1
theorem k0_off51_inb : ∀ (v4 : BitVec 32) (k0_hw1 : k0_chk1 v4), ∀ a, (k0_off51 v4) a + S1.size a ≤ S32.size a := fun v4 k0_hw1 => k0_hw1.1.2.2.2.2.2.2.2.2.2.2.2.2.2.2.2.2.2.2.2.2.2.2.2.2.2.1
theorem k0_off53_inb : ∀ (v4 : BitVec 32) (k0_hw1 : k0_chk1 v4), ∀ a, (k0_off53 v4) a + S1.size a ≤ S32.size a := fun v4 k0_hw1 => k0_hw1.1.2.2.2.2.2.2.2.2.2.2.2.2.2.2.2.2.2.2.2.2.2.2.2.2.2.2.1
theorem k0_off55_inb : ∀ (v4 : BitVec 32) (k0_hw1 : k0_chk1 v4), ∀ a, (k0_off55 v4) a + S1.size a ≤ S32.size a := fun v4 k0_hw1 => k0_hw1.1.2.2.2.2.2.2.2.2.2.2.2.2.2.2.2.2.2.2.2.2.2.2.2.2.2.2.2.1
theorem k0_off57_inb : ∀ (v4 : BitVec 32) (k0_hw1 : k0_chk1 v4), ∀ a, (k0_off57 v4) a + S1.size a ≤ S32.size a := fun v4 k0_hw1 => k0_hw1.1.2.2.2.2.2.2.2.2.2.2.2.2.2.2.2.2.2.2.2.2.2.2.2.2.2.2.2.2.1
theorem k0_off59_inb : ∀ (v4 : BitVec 32) (k0_hw1 : k0_chk1 v4), ∀ a, (k0_off59 v4) a + S1.size a ≤ S32.size a := fun v4 k0_hw1 => k0_hw1.1.2.2.2.2.2.2.2.2.2.2.2.2.2.2.2.2.2.2.2.2.2.2.2.2.2.2.2.2.2.1
theorem k0_off61_inb : ∀ (v4 : BitVec 32) (k0_hw1 : k0_chk1 v4), ∀ a, (k0_off61 v4) a + S1.size a ≤ S32.size a := fun v4 k0_hw1 => k0_hw1.1.2.2.2.2.2.2.2.2.2.2.2.2.2.2.2.2.2.2.2.2.2.2.2.2.2.2.2.2.2.2.1
theorem k0_off63_inb : ∀ (v4 : BitVec 32) (k0_hw1 : k0_chk1 v4), ∀ a, (k0_off63 v4) a + S1.size a ≤ S32.size a := fun v4 k0_hw1 => k0_hw1.1.2.2.2.2.2.2.2.2.2.2.2.2.2.2.2.2.2.2.2.2.2.2.2.2.2.2.2.2.2.2.2
theorem k0_off65_inb : ∀ (v4 : BitVec 32) (k0_hw1 : k0_chk1 v4), ∀ a, (k0_off65 v4) a + S1.size a ≤ S32.size a := fun v4 k0_hw1 => k0_hw1.2

def k0_off66 (v1563 : BitVec 32) : Fin 2 → Nat :=
  let c128_i32_1710 : BitVec 32 := 128#32
  let v1570 : BitVec 32 := Scalar.muli v1563 c128_i32_1710
  let v1571 : Index := Scalar.indexCast v1570
  let c0_1711 : Index := 0#32
  ![v1571.toNat, 0]

def k0_chk34 (v1563 : BitVec 32) : Prop :=
  (∀ a, (k0_off66 v1563) a + S128x256.size a ≤ S4096x256.size a)
theorem k0_off66_inb : ∀ (v1563 : BitVec 32) (k0_hw34 : k0_chk34 v1563), ∀ a, (k0_off66 v1563) a + S128x256.size a ≤ S4096x256.size a := fun v1563 k0_hw34 => k0_hw34

abbrev stage0_0 : Fin 1 → Memref sig .tc .vmem S128x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S32 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/- The kernel's body as one loop over the hops of the ring.

   The printed body is unrolled: fifteen hops in both directions, then the last half-hop, then the waits for
   the departures. Here the same operations are written once per kind — a copy to a neighbour, the wait for
   an arrival, the product of one block, the wait for a departure — and put together by folds over the list
   of hops and the list of messages. `body_eq` says the printed body is that program. -/
module

public import proofs.«01_k».proof.Proof.Gen.KernelIdeal.Skeleton
public import proofs.«01_k».proof.Proof.Gen.KernelIdeal.Frame

@[expose] public section

noncomputable section

namespace Cert.KernelIdeal.Body

open Idealize.ShloMosaic Idealize.SL.Sem Cert.KernelIdeal Cert.KernelIdeal.Gen

/-! ## The messages

A message goes one hop in one direction and carries half of a block: direction `d` (`false`: to the right
neighbour, `true`: to the left one), hop `i`, half `s`. -/

/-- The direction, the hop and the half of a copy. -/
abbrev Msg := Bool × Fin 16 × Fin 2

/-- The slot a hop copies out of. -/
def src (d : Bool) (i : Fin 16) : Fin 32 :=
  match d with
  | false => ⟨i.val, by omega⟩
  | true => if i.val = 0 then ⟨0, by omega⟩ else ⟨16 + i.val, by omega⟩

/-- The slot a hop copies into (the same on both devices). -/
def dst (d : Bool) (i : Fin 16) : Fin 32 :=
  match d with
  | false => ⟨i.val + 1, by omega⟩
  | true => if h : i.val = 15 then ⟨16, by omega⟩ else ⟨17 + i.val, by omega⟩

/-- The copies the kernel makes: all of the first fifteen hops; of the last hop the first half comes by the
    right-going direction and the second by the left-going one. -/
def used : Msg → Bool
  | (d, i, s) => i.val < 15 || (!d && s.val == 0) || (d && s.val == 1)

/-! ## Offsets -/

/-- The place in the ring table `h` steps behind the word `v`. -/
def offBack (h : ℕ) (v : BitVec 32) : Fin 1 → ℕ :=
  ![(Scalar.indexCast (Scalar.remsi (Scalar.addi (Scalar.subi v (BitVec.ofNat 32 h)) 32#32) 32#32)).toNat]

/-- The place in the ring table `h` steps ahead of the word `v`. -/
def offFore (h : ℕ) (v : BitVec 32) : Fin 1 → ℕ :=
  ![(Scalar.indexCast (Scalar.remsi (Scalar.addi v (BitVec.ofNat 32 h)) 32#32)).toNat]

theorem offBack_inb (v : BitVec 32) (hv : k0_chk1 v) :
    ∀ i : Fin 15, ∀ a, offBack (i.val + 1) v a + S1.size a ≤ S32.size a
  | ⟨0, _⟩ => k0_off5_inb v hv
  | ⟨1, _⟩ => k0_off9_inb v hv
  | ⟨2, _⟩ => k0_off13_inb v hv
  | ⟨3, _⟩ => k0_off17_inb v hv
  | ⟨4, _⟩ => k0_off21_inb v hv
  | ⟨5, _⟩ => k0_off25_inb v hv
  | ⟨6, _⟩ => k0_off29_inb v hv
  | ⟨7, _⟩ => k0_off33_inb v hv
  | ⟨8, _⟩ => k0_off37_inb v hv
  | ⟨9, _⟩ => k0_off41_inb v hv
  | ⟨10, _⟩ => k0_off45_inb v hv
  | ⟨11, _⟩ => k0_off49_inb v hv
  | ⟨12, _⟩ => k0_off53_inb v hv
  | ⟨13, _⟩ => k0_off57_inb v hv
  | ⟨14, _⟩ => k0_off61_inb v hv

theorem offFore_inb (v : BitVec 32) (hv : k0_chk1 v) :
    ∀ i : Fin 16, ∀ a, offFore (i.val + 1) v a + S1.size a ≤ S32.size a
  | ⟨0, _⟩ => k0_off7_inb v hv
  | ⟨1, _⟩ => k0_off11_inb v hv
  | ⟨2, _⟩ => k0_off15_inb v hv
  | ⟨3, _⟩ => k0_off19_inb v hv
  | ⟨4, _⟩ => k0_off23_inb v hv
  | ⟨5, _⟩ => k0_off27_inb v hv
  | ⟨6, _⟩ => k0_off31_inb v hv
  | ⟨7, _⟩ => k0_off35_inb v hv
  | ⟨8, _⟩ => k0_off39_inb v hv
  | ⟨9, _⟩ => k0_off43_inb v hv
  | ⟨10, _⟩ => k0_off47_inb v hv
  | ⟨11, _⟩ => k0_off51_inb v hv
  | ⟨12, _⟩ => k0_off55_inb v hv
  | ⟨13, _⟩ => k0_off59_inb v hv
  | ⟨14, _⟩ => k0_off63_inb v hv
  | ⟨15, _⟩ => k0_off65_inb v hv
  | ⟨i + 16, h⟩ => absurd h (by omega)

theorem half_inb (sl : Fin 32) (s : Fin 2) :
    ∀ a, (![sl.val, 64 * s.val, 0] : Fin 3 → ℕ) a + S1x64x4096.size a ≤ S32x128x4096.size a := by
  revert sl s; decide

theorem half_words (sl : Fin 32) (s : Fin 2) :
    (Rect.unit (s := S32x128x4096) ![sl.val, 64 * s.val, 0] S1x64x4096.size (half_inb sl s)).WholeWords
      (EltTy.packing .fp8e5m2) := by
  revert sl s; decide +kernel

theorem slot_inb (sl : Fin 32) :
    ∀ a, (![sl.val, 0, 0] : Fin 3 → ℕ) a + S1x128x4096.size a ≤ S32x128x4096.size a := by
  revert sl; decide

theorem sem_inb (i : Fin 16) (s : Fin 2) :
    ∀ a, (![i.val, s.val] : Fin 2 → ℕ) a + S1x1.size a ≤ S16x2.size a := by
  revert i s; decide

/-! ## The steps -/

variable {F : FTy → Type} [FloatOps F]

/-- The programs of one device's core. -/
abbrev P (F : FTy → Type) := Prog (TpuEff nD τ sig (Elt F) Λ₀ .tc) PUnit

/-- Half `s` of slot `sl` of the gathering buffer. -/
def half (arg7 : Memref sig .tc .vmem S32x128x4096 .fp8e5m2) (sl : Fin 32) (s : Fin 2) :
    Memref sig .tc .vmem S64x4096 .fp8e5m2 :=
  (arg7.slice (Rect.unit (s := S32x128x4096) ![sl.val, 64 * s.val, 0] S1x64x4096.size (half_inb sl s))
    (fun _ => rfl)).squeeze S64x4096 squeezes_S1x64x4096_S64x4096

theorem half_we {arg7 : Memref sig .tc .vmem S32x128x4096 .fp8e5m2} (h7 : arg7.IsWhole) (sl : Fin 32)
    (s : Fin 2) : (half arg7 sl s).view.WordExact :=
  (h7.wordExact_slice rfl _ (half_words sl s)).reshape _ _

/-- Cell `(i, s)` of an array of completion semaphores. -/
def semAt (A : DmaSems sig S16x2) (i : Fin 16) (s : Fin 2) : DmaSem sig :=
  ((A.slice (Rect.unit (s := S16x2) ![i.val, s.val] S1x1.size (sem_inb i s))).squeeze S_
    squeezes_S1x1_S_).sem

/-- The word of a table in scalar memory at the place `o`. -/
def word (a : Memref sig .tc .smem S32 .i32) (o : Fin 1 → ℕ) (ho : ∀ x, o x + S1.size x ≤ S32.size x)
    (k : BitVec 32 → P F) : P F :=
  smemLoadElt a (Rect.unit (s := S32) o S1.size ho) (View.loads_smem_one rfl numel1_S1)
    (Shape.Idx.first (numel1_S1.symm ▸ Nat.one_pos)) k

/-- A scale in scalar memory. -/
def scale (a : Memref sig .tc .smem S1 .f32) (k : F .f32 → P F) : P F :=
  smemLoadElt a (Rect.unit (s := S1) ![0] S1.size inb_S1_S1_0) (View.loads_smem_one rfl numel1_S1)
    (Shape.Idx.first (numel1_S1.symm ▸ Nat.one_pos)) k

section

variable (arg6 : Memref sig .tc .vmem S4096x256 .f32)
  (arg7 : Memref sig .tc .vmem S32x128x4096 .fp8e5m2) (h7 : arg7.IsWhole)
  (A : Bool → DmaSems sig S16x2) (B : Bool → DmaSems sig S16x2) (nb : Bool → Dev nD)

/-- The copy of message `(d, i, s)` to the neighbour of its direction. -/
def send (m : Msg) (k : P F) : P F :=
  .op (.enqueueDma (half arg7 (src m.1 m.2.1) m.2.2)
    (.remote (Dev.tc (nb m.1)) (half arg7 (dst m.1 m.2.1) m.2.2) (.dma (semAt (A m.1) m.2.1 m.2.2)))
    (.dma (semAt (B m.1) m.2.1 m.2.2)) (half_we h7 _ _) (half_we h7 _ _) ⟨⟨rfl, Or.inl rfl⟩, trivial⟩)
    fun _ => k

/-- The wait for the arrival of message `(d, i, s)`. -/
def recv (m : Msg) (k : P F) : P F :=
  .op (.waitDma2 (semAt (B m.1) m.2.1 m.2.2) (half arg7 (src m.1 m.2.1) m.2.2)
    (half arg7 (dst m.1 m.2.1) m.2.2) (half_we h7 _ _) (half_we h7 _ _)) fun _ => k

/-- The wait for the departure of message `(d, i, s)`. -/
def sent (m : Msg) (k : P F) : P F :=
  .op (.waitDma2 (semAt (A m.1) m.2.1 m.2.2) (half arg7 (dst m.1 m.2.1) m.2.2)
    (half arg7 (src m.1 m.2.1) m.2.2) (half_we h7 _ _) (half_we h7 _ _)) fun _ => k

/-- The same, for a message the kernel may not make. -/
def sendIf (m : Msg) (k : P F) : P F := bif used m then send arg7 h7 A B nb m k else k

/-- One whole slot of the gathering buffer. -/
def loadSlot (sl : Fin 32) (k : Vec F S1x128x4096 .fp8e5m2 → P F) : P F :=
  .op (.load arg7 (Rect.unit (s := S32x128x4096) ![sl.val, 0, 0] S1x128x4096.size (slot_inb sl)).toLoadRect
    (View.loadsAt_vmem h_S1x128x4096)) k

/-- The block of the result at `o` is read, for nothing, and overwritten. -/
def putBlock (o : Fin 2 → ℕ) (ho : ∀ a, o a + S128x256.size a ≤ S4096x256.size a)
    (v : FVec F S128x256 .f32) (k : P F) : P F :=
  .op (.load arg6 (Rect.unit (s := S4096x256) o S128x256.size ho).toLoadRect (View.loadsAt_vmem h_S128x256))
    fun _ => .op (.store arg6 (Rect.unit (s := S4096x256) o S128x256.size ho) v Finset.univ
      (View.stores_vmem_bits_univ h_S128x256 rfl) (.inl rfl)) fun _ => k

/-- The product of the block in slot `sl`, put at the rows of the device the ring table names. -/
def block (arg4 : Memref sig .tc .smem S32 .i32) (o : Fin 1 → ℕ)
    (ho : ∀ x, o x + S1.size x ≤ S32.size x) (sl : Fin 32) (sc : F .f32) (w : FVec F S4096x256 .bf16)
    (k : P F) : P F :=
  word arg4 o ho fun v => .op (TpuEff.assume (k0_chk4 v) (k0_chk4.dec v)) fun h =>
    loadSlot arg7 sl fun x => putBlock arg6 (k0_off6 v) (k0_off6_inb v h.down) (k0_pay7 sc w x) k

/-- One arrival, passed on if the kernel passes it on. -/
def relay (d : Bool) (i : Fin 15) (s : Fin 2) (k : P F) : P F :=
  recv arg7 h7 B (d, i.castSucc, s) (sendIf arg7 h7 A B nb (d, i.succ, s) k)

/-- One hop: both halves of both directions arrive and are passed on, then their blocks' products. -/
def hop (arg4 : Memref sig .tc .smem S32 .i32) (v : BitVec 32) (hv : k0_chk1 v) (sc : F .f32)
    (w : FVec F S4096x256 .bf16) (i : Fin 15) (k : P F) : P F :=
  relay arg7 h7 A B nb false i 0 <| relay arg7 h7 A B nb true i 0 <|
  relay arg7 h7 A B nb false i 1 <| relay arg7 h7 A B nb true i 1 <|
  block arg6 arg7 arg4 (offBack (i.val + 1) v) (offBack_inb v hv i) (dst false i.castSucc) sc w <|
  block arg6 arg7 arg4 (offFore (i.val + 1) v) (offFore_inb v hv i.castSucc) (dst true i.castSucc) sc w k

end

/-- The hops, in order. -/
def hops : List (Fin 15) := [0, 1, 2, 3, 4, 5, 6, 7, 8, 9, 10, 11, 12, 13, 14]

/-- The messages of one direction, in the order their departures are awaited. -/
def departures (d : Bool) : List Msg :=
  [0, 1, 2, 3, 4, 5, 6, 7, 8, 9, 10, 11, 12, 13, 14].foldr
    (fun i l => (d, i, 0) :: (d, i, 1) :: l) [(d, 15, bif d then 1 else 0)]

/-- The part of the body after the three table words are read: the handshake with both neighbours, the own
    block into slot 0, the first copies, the own block's product, the hops, the last half-hop, and the waits
    for the departures. -/
def rest (arg0 : Memref sig .tc .vmem S128x4096 .fp8e5m2) (arg1 : Memref sig .tc .vmem S4096x256 .fp8e5m2)
    (arg2 arg3 : Memref sig .tc .smem S1 .f32) (arg4 : Memref sig .tc .smem S32 .i32)
    (arg6 : Memref sig .tc .vmem S4096x256 .f32)
    (arg7 : Memref sig .tc .vmem S32x128x4096 .fp8e5m2) (h7 : arg7.IsWhole)
    (A B : Bool → DmaSems sig S16x2) (d0 : Dev nD) (v : BitVec 32) (hv : k0_chk1 v) (nb : Bool → Dev nD) : P F :=
  .op (.semSignal (nb true, .tc) (SemArray.scalar (sig.barrier 0 rfl) : Sems sig S_).sem (1#32 : BitVec 32).toInt) fun _ =>
  .op (.semSignal (nb false, .tc) (SemArray.scalar (sig.barrier 0 rfl) : Sems sig S_).sem (1#32 : BitVec 32).toInt) fun _ =>
  .op (.semWait (SemArray.scalar (sig.barrier 0 rfl) : Sems sig S_).sem (2#32 : BitVec 32).toInt) fun _ =>
  .op (.load arg0 (Rect.unit (s := S128x4096) ![0, 0] S128x4096.size inb_S128x4096_S128x4096_0_0).toLoadRect
    (View.loadsAt_vmem h_S128x4096)) fun x =>
  loadSlot arg7 0 fun _ =>
  .op (.store arg7 (Rect.unit (s := S32x128x4096) ![0, 0, 0] S1x128x4096.size inb_S32x128x4096_S1x128x4096_0_0_0)
    (k0_pay1 x) Finset.univ (View.stores_vmem h_S1x128x4096
      (h7.storeExact_slice rfl _ packedfp8e5m2_S32x128x4096_S1x128x4096_0_0_0) (fun _ => rfl)) (.inl rfl)) fun _ =>
  send arg7 h7 A B nb (false, 0, 0) <| send arg7 h7 A B nb (true, 0, 0) <|
  send arg7 h7 A B nb (false, 0, 1) <| send arg7 h7 A B nb (true, 0, 1) <|
  scale arg2 fun s₁ => scale arg3 fun s₂ =>
  .op (.load arg1 (Rect.unit (s := S4096x256) ![0, 0] S4096x256.size inb_S4096x256_S4096x256_0_0).toLoadRect
    (View.loadsAt_vmem h_S4096x256)) fun w =>
  loadSlot arg7 0 fun x₀ =>
  putBlock arg6 (k0_off4 d0) (k0_off4_inb d0) (k0_pay7 (k0_pay2 s₁ s₂) (k0_pay3 w) x₀) <|
  hops.foldr (hop arg6 arg7 h7 A B nb arg4 v hv (k0_pay2 s₁ s₂) (k0_pay3 w)) <|
  recv arg7 h7 B (false, 15, 0) <| recv arg7 h7 B (true, 15, 1) <|
  block arg6 arg7 arg4 (offFore 16 v) (offFore_inb v hv 15) 16 (k0_pay2 s₁ s₂) (k0_pay3 w) <|
  (departures false).foldr (sent arg7 h7 A) <| (departures true).foldr (sent arg7 h7 A) <| .ret ⟨⟩

/-- The whole body: the device's place in the ring, its two neighbours, and the rest. -/
def prog (arg0 : Memref sig .tc .vmem S128x4096 .fp8e5m2) (arg1 : Memref sig .tc .vmem S4096x256 .fp8e5m2)
    (arg2 arg3 : Memref sig .tc .smem S1 .f32) (arg4 arg5 : Memref sig .tc .smem S32 .i32)
    (arg6 : Memref sig .tc .vmem S4096x256 .f32)
    (arg7 : Memref sig .tc .vmem S32x128x4096 .fp8e5m2) (h7 : arg7.IsWhole)
    (A B : Bool → DmaSems sig S16x2) : P F :=
  .op .deviceId fun d0 =>
  word arg5 (k0_off1 d0) (k0_off1_inb d0) fun v =>
  .op (TpuEff.assume (k0_chk1 v) (k0_chk1.dec v)) fun hv =>
  word arg4 (k0_off2 v) (k0_off2_inb v hv.down) fun vl =>
  .op (TpuEff.assume (k0_chk2 vl) (k0_chk2.dec vl)) fun hl =>
  word arg4 (k0_off3 v) (k0_off3_inb v hv.down) fun vr =>
  .op (TpuEff.assume (k0_chk3 vr) (k0_chk3.dec vr)) fun hr =>
  rest arg0 arg1 arg2 arg3 arg4 arg6 arg7 h7 A B d0 v hv.down
    (fun d => bif d then ⟨k0_dev1 vl, k0_dev1_lt vl hl.down⟩ else ⟨k0_dev2 vr, k0_dev2_lt vr hr.down⟩)

/-- The printed body is this program. -/
theorem body_eq (arg0 : Memref sig .tc .vmem S128x4096 .fp8e5m2) (harg0 : arg0.IsWhole) (arg1 : Memref sig .tc .vmem S4096x256 .fp8e5m2) (harg1 : arg1.IsWhole) (arg2 : Memref sig .tc .smem S1 .f32) (harg2 : arg2.IsWhole) (arg3 : Memref sig .tc .smem S1 .f32) (harg3 : arg3.IsWhole) (arg4 : Memref sig .tc .smem S32 .i32) (harg4 : arg4.IsWhole) (arg5 : Memref sig .tc .smem S32 .i32) (harg5 : arg5.IsWhole) (arg6 : Memref sig .tc .vmem S4096x256 .f32) (harg6 : arg6.IsWhole) (arg7 : Memref sig .tc .vmem S32x128x4096 .fp8e5m2) (harg7 : arg7.IsWhole) (arg8 : DmaSems sig S16x2) (arg9 : DmaSems sig S16x2) (arg10 : DmaSems sig S16x2) (arg11 : DmaSems sig S16x2) :
    cc0_body (F := F) arg0 harg0 arg1 harg1 arg2 harg2 arg3 harg3 arg4 harg4 arg5 harg5 arg6 harg6 arg7 harg7
      arg8 arg9 arg10 arg11
    = prog arg0 arg1 arg2 arg3 arg4 arg5 arg6 arg7 harg7 (fun d => bif d then arg10 else arg8)
        (fun d => bif d then arg11 else arg9) := by
  chain_rfl

end Cert.KernelIdeal.Body

end

end
-- ==== Proof.Ring.lean ====
/- The ring: its order, the neighbours, and whose block lies in which slot.

   Two tables give the order: a device's place in the ring, and the device at a place. Everything the kernel
   computes from a table's word is a fact about 32 devices, 32 places and 16 hops, decided here once. -/
module

public import proofs.«01_k».proof.Proof.Prog

@[expose] public section

noncomputable section

namespace Cert.KernelIdeal.Body

open Idealize.ShloMosaic Idealize.SL.Sem Cert.KernelIdeal Cert.KernelIdeal.Gen

/-- The device at a place of the ring. -/
def devAt (p : Fin 32) : Dev nD := Fin.ofNat 32 (lit0 p).toNat

/-- A device's place in the ring. -/
def place (c : Dev nD) : Fin 32 := Fin.ofNat 32 (lit1 c).toNat

/-- The neighbour in a direction: one place ahead, or one behind. -/
def nb (d : Bool) (c : Dev nD) : Dev nD := devAt (bif d then place c - 1 else place c + 1)

/-- How far from a device, along the ring, the owner of the block in its slot `sl` is: slots 1 to 16 hold
    the blocks of the devices behind it, slots 17 to 31 those of the devices ahead. -/
def step (sl : Fin 32) : Fin 32 := if sl.val ≤ 16 then -sl else sl - 16

/-- The device whose block lies in slot `sl` of device `c`. -/
def orig (c : Dev nD) (sl : Fin 32) : Dev nD := devAt (place c + step sl)

theorem devAt_place : ∀ c : Dev nD, devAt (place c) = c := by decide +kernel

theorem place_devAt : ∀ p : Fin 32, place (devAt p) = p := by decide +kernel

theorem orig_zero : ∀ c : Dev nD, orig c 0 = c := by decide +kernel

theorem step_injective : Function.Injective step := by decide +kernel

theorem orig_injective (c : Dev nD) : Function.Injective (orig c) := fun a b h => by
  have h' := congrArg place h
  simp only [orig, place_devAt] at h'
  refine step_injective (?_ : step a = step b)
  have e := congrArg (· - place c) h'
  revert e; generalize step a = x; generalize step b = y; generalize place c = z; revert x y z; decide +kernel

theorem orig_bijective (c : Dev nD) : Function.Bijective (orig c) :=
  Finite.injective_iff_bijective.mp (orig_injective c)

/-- What a hop moves: the block in the sender's slot is the one that belongs in the receiver's. -/
theorem orig_nb : ∀ (d : Bool) (i : Fin 16) (c : Dev nD),
    orig (nb d c) (dst d i) = orig c (src d i) := by decide +kernel

theorem nb_nb : ∀ (d : Bool) (c : Dev nD), nb d (nb (!d) c) = c := by decide +kernel

theorem nb_nb' (d : Bool) (c : Dev nD) : nb (!d) (nb d c) = c := by
  have h := nb_nb (!d) c; rwa [Bool.not_not] at h

theorem nb_ne : ∀ (d : Bool) (c : Dev nD), nb d c ≠ c := by decide +kernel

theorem nb_ne_nb : ∀ c : Dev nD, nb false c ≠ nb true c := by decide +kernel

/-- The neighbour in a direction, as a rearrangement of the devices. -/
def nbE (d : Bool) : Dev nD ≃ Dev nD := ⟨nb d, nb (!d), fun c => nb_nb' d c, fun c => nb_nb d c⟩

theorem dst_succ : ∀ (d : Bool) (i : Fin 15), src d i.succ = dst d i.castSucc := by decide +kernel

theorem dst_ne_zero : ∀ (d : Bool) (i : Fin 16), dst d i ≠ 0 := by decide +kernel

/-! ## The words of the tables -/

theorem chk1 : ∀ c : Dev nD, k0_chk1 (lit1 c) := by decide +kernel
theorem chk2 : ∀ p : Fin 32, k0_chk2 (lit0 p) := by decide +kernel
theorem chk3 : ∀ p : Fin 32, k0_chk3 (lit0 p) := by decide +kernel
theorem chk4 : ∀ p : Fin 32, k0_chk4 (lit0 p) := by decide +kernel

theorem off1_eq : ∀ c : Dev nD, k0_off1 c = ![c.val] := by decide +kernel
theorem off2_eq : ∀ c : Dev nD, k0_off2 (lit1 c) = ![(place c - 1).val] := by decide +kernel
theorem off3_eq : ∀ c : Dev nD, k0_off3 (lit1 c) = ![(place c + 1).val] := by decide +kernel
theorem off4_eq : ∀ c : Dev nD, k0_off4 c = ![128 * c.val, 0] := by decide +kernel
theorem off6_eq : ∀ p : Fin 32, k0_off6 (lit0 p) = ![128 * (devAt p).val, 0] := by decide +kernel

theorem offBack_eq : ∀ (c : Dev nD) (i : Fin 15),
    offBack (i.val + 1) (lit1 c) = ![(place c + step (dst false i.castSucc)).val] := by decide +kernel

theorem offFore_eq : ∀ (c : Dev nD) (i : Fin 16),
    offFore (i.val + 1) (lit1 c) = ![(place c + step (dst true i)).val] := by decide +kernel

theorem dev1_eq : ∀ p : Fin 32, k0_dev1 (lit0 p) = (devAt p).val := by decide +kernel
theorem dev2_eq : ∀ p : Fin 32, k0_dev2 (lit0 p) = (devAt p).val := by decide +kernel

end Cert.KernelIdeal.Body

end

end
-- ==== Proof.Geometry.lean ====
/- Where the halves and slots of the gathering buffer and the blocks of the result lie, and what they hold.

   The gathering buffer is split in 32 slots of two halves each; the result in 32 blocks of rows. `full xs c` is
   what device `c`'s gathering buffer holds in the end: in slot `sl` the block of the device that belongs there.
   `result` is what the result's staging buffer holds in the end. -/
module

public import proofs.«01_k».proof.Proof.Ring

@[expose] public section

noncomputable section

namespace Cert.KernelIdeal.Body

open Idealize.ShloMosaic Idealize.SL.Sem Cert.KernelIdeal Cert.KernelIdeal.Gen

variable {F : FTy → Type} [FloatOps F]

/-- The gathering buffer, whole. -/
abbrev CM : Memref sig .tc .vmem S32x128x4096 .fp8e5m2 := Memref.whole cc0_scratch0

/-- The result's staging buffer, whole. -/
abbrev OM : Memref sig .tc .vmem S4096x256 .f32 := Memref.whole cc0_stg6_0

theorem CM_whole : (CM).IsWhole := Memref.isWhole_whole _

/-! ## Element sets -/

/-- The elements of half `s` of slot `sl`. -/
def halfSet (sl : Fin 32) (s : Fin 2) : Finset S32x128x4096.Idx :=
  (Rect.unit (s := S32x128x4096) ![sl.val, 64 * s.val, 0] S1x64x4096.size (half_inb sl s)).set

/-- The elements of slot `sl`. -/
def slotSet (sl : Fin 32) : Finset S32x128x4096.Idx :=
  (Rect.unit (s := S32x128x4096) ![sl.val, 0, 0] S1x128x4096.size (slot_inb sl)).set

theorem half_set (sl : Fin 32) (s : Fin 2) : (half CM sl s).view.set = halfSet sl s :=
  (View.set_reshape _ _).trans (View.set_slice_whole _ _)

theorem slot_set (sl : Fin 32) :
    ((CM).access (Rect.unit (s := S32x128x4096) ![sl.val, 0, 0] S1x128x4096.size (slot_inb sl))).set
      = slotSet sl := View.set_slice_whole _ _

theorem mem_halfSet {sl : Fin 32} {s : Fin 2} {i : S32x128x4096.Idx} :
    i ∈ halfSet sl s ↔ (i 0).val = sl.val ∧ (i 1).val / 64 = s.val := by
  unfold halfSet
  rw [Rect.mem_set_unit]
  have h1 : (i 1).val < 128 := (i 1).isLt
  have h2 : (i 2).val < 4096 := (i 2).isLt
  constructor
  · intro h
    have a0 : sl.val ≤ (i 0).val ∧ (i 0).val < sl.val + 1 := h 0
    have a1 : 64 * s.val ≤ (i 1).val ∧ (i 1).val < 64 * s.val + 64 := h 1
    omega
  · rintro ⟨e0, e1⟩ a
    match a with
    | 0 => show sl.val ≤ (i 0).val ∧ (i 0).val < sl.val + 1; omega
    | 1 => show 64 * s.val ≤ (i 1).val ∧ (i 1).val < 64 * s.val + 64; omega
    | 2 => show 0 ≤ (i 2).val ∧ (i 2).val < 0 + 4096; omega

theorem mem_slotSet {sl : Fin 32} {i : S32x128x4096.Idx} : i ∈ slotSet sl ↔ (i 0).val = sl.val := by
  unfold slotSet
  rw [Rect.mem_set_unit]
  have h1 : (i 1).val < 128 := (i 1).isLt
  have h2 : (i 2).val < 4096 := (i 2).isLt
  constructor
  · intro h
    have a0 : sl.val ≤ (i 0).val ∧ (i 0).val < sl.val + 1 := h 0
    omega
  · rintro e0 a
    match a with
    | 0 => show sl.val ≤ (i 0).val ∧ (i 0).val < sl.val + 1; omega
    | 1 => show 0 ≤ (i 1).val ∧ (i 1).val < 0 + 128; omega
    | 2 => show 0 ≤ (i 2).val ∧ (i 2).val < 0 + 4096; omega

theorem slotSet_eq (sl : Fin 32) : slotSet sl = halfSet sl 0 ∪ halfSet sl 1 := by
  ext i
  rw [Finset.mem_union, mem_slotSet, mem_halfSet, mem_halfSet]
  have h1 : (i 1).val < 128 := (i 1).isLt
  show _ ↔ _ ∧ _ = 0 ∨ _ ∧ _ = 1
  omega

theorem halves_disjoint (sl : Fin 32) : Disjoint (halfSet sl 0) (halfSet sl 1) := by
  rw [Finset.disjoint_left]
  intro i h0 h1
  rw [mem_halfSet] at h0 h1
  have := h0.2.symm.trans h1.2
  exact absurd this (by decide)

theorem slots_disjoint (b b' : Fin 32) (h : b ≠ b') : Disjoint (slotSet b) (slotSet b') := by
  rw [Finset.disjoint_left]
  intro i h0 h1
  rw [mem_slotSet] at h0 h1
  exact h (Fin.ext (h0.symm.trans h1))

theorem slots_cover : Finset.univ.biUnion slotSet = Finset.univ := by
  ext i
  simp only [Finset.mem_biUnion, Finset.mem_univ, true_and, iff_true]
  exact ⟨i 0, mem_slotSet.mpr rfl⟩

/-- The rows of the result that belong to device `o`'s block. -/
def rowSet (o : Dev nD) : Finset S4096x256.Idx := Finset.univ.filter fun i => (i 0).val / 128 = o.val

theorem mem_rowSet {o : Dev nD} {i : S4096x256.Idx} : i ∈ rowSet o ↔ (i 0).val / 128 = o.val := by
  unfold rowSet; rw [Finset.mem_filter]; exact ⟨fun h => h.2, fun h => ⟨Finset.mem_univ _, h⟩⟩

theorem rows_disjoint (b b' : Dev nD) (h : b ≠ b') : Disjoint (rowSet b) (rowSet b') := by
  rw [Finset.disjoint_left]
  intro i h0 h1
  rw [mem_rowSet] at h0 h1
  exact h (Fin.ext (h0.symm.trans h1))

theorem rows_cover : Finset.univ.biUnion rowSet = Finset.univ := by
  ext i
  simp only [Finset.mem_biUnion, Finset.mem_univ, true_and, iff_true]
  have h : (i 0).val < 4096 := (i 0).isLt
  exact ⟨⟨(i 0).val / 128, by show _ < 32; omega⟩, mem_rowSet.mpr rfl⟩

theorem row_inb (o : Dev nD) :
    ∀ a, (![128 * o.val, 0] : Fin 2 → ℕ) a + S128x256.size a ≤ S4096x256.size a := by
  revert o; decide

theorem row_set (o : Dev nD) :
    ((OM).access (Rect.unit (s := S4096x256) ![128 * o.val, 0] S128x256.size (row_inb o))).set = rowSet o := by
  refine (View.set_slice_whole _ _).trans ?_
  ext i
  rw [mem_rowSet, Rect.mem_set_unit]
  have h1 : (i 1).val < 256 := (i 1).isLt
  constructor
  · intro h
    have a0 : 128 * o.val ≤ (i 0).val ∧ (i 0).val < 128 * o.val + 128 := h 0
    omega
  · intro e a
    match a with
    | 0 => show 128 * o.val ≤ (i 0).val ∧ (i 0).val < 128 * o.val + 128; omega
    | 1 => show 0 ≤ (i 1).val ∧ (i 1).val < 0 + 256; omega

/-! ## Contents -/

/-- The place inside its slot of an element of the gathering buffer. -/
def inSlot (i : S32x128x4096.Idx) : S1x128x4096.Idx
  | 0 => ⟨0, Nat.one_pos⟩
  | 1 => i 1
  | 2 => i 2

/-- What device `c`'s gathering buffer holds once everything has arrived. -/
def full (xs : Dev nD → Vec F S128x4096 .fp8e5m2) (c : Dev nD) : cc0_scratch0.ty.Contents (Elt F) :=
  fun i => k0_pay1 (xs (orig c (i 0))) (inSlot i)

/-- The place inside its block of an element of the result. -/
def inBlock (i : S4096x256.Idx) : S128x256.Idx
  | 0 => ⟨(i 0).val % 128, Nat.mod_lt _ (by decide)⟩
  | 1 => i 1

/-- What the result holds in the end: block by block the scaled product. -/
def result (xs : Dev nD → Vec F S128x4096 .fp8e5m2) (sc : F .f32) (w : FVec F S4096x256 .bf16) :
    cc0_stg6_0.ty.Contents (Elt F) :=
  fun i => k0_pay7 sc w (k0_pay1 (xs ⟨(i 0).val / 128, by
    have h : (i 0).val < 4096 := (i 0).isLt
    show _ < 32; omega⟩)) (inBlock i)

variable (xs : Dev nD → Vec F S128x4096 .fp8e5m2)

/-- A slot of the full buffer, read, is the block of the device that belongs there. -/
theorem read_slot (c : Dev nD) (sl : Fin 32) :
    ((CM).access (Rect.unit (s := S32x128x4096) ![sl.val, 0, 0] S1x128x4096.size (slot_inb sl))).read (Elt F)
      (full xs c) = k0_pay1 (xs (orig c sl)) := by
  funext x
  show full xs c ((Rect.unit (s := S32x128x4096) ![sl.val, 0, 0] S1x128x4096.size (slot_inb sl)).emb x) = _
  have hx0 : (x 0).val < 1 := (x 0).isLt
  unfold full
  have e0 : (Rect.unit (s := S32x128x4096) ![sl.val, 0, 0] S1x128x4096.size (slot_inb sl)).emb x 0 = sl :=
    Fin.ext (by show sl.val + 1 * (x 0).val = sl.val; omega)
  have e1 : inSlot ((Rect.unit (s := S32x128x4096) ![sl.val, 0, 0] S1x128x4096.size (slot_inb sl)).emb x) = x := by
    funext a
    match a with
    | 0 => exact Fin.ext (by show 0 = (x 0).val; omega)
    | 1 => exact Fin.ext (by show 0 + 1 * (x 1).val = (x 1).val; omega)
    | 2 => exact Fin.ext (by show 0 + 1 * (x 2).val = (x 2).val; omega)
  rw [e0, e1]

/-- Storing the own block into slot 0 makes the slot what it will be. -/
theorem write_slot_zero (c : Dev nD) (f : cc0_scratch0.ty.Contents (Elt F)) :
    ∀ i ∈ slotSet 0, ((CM).access (Rect.unit (s := S32x128x4096) ![0, 0, 0] S1x128x4096.size
      inb_S32x128x4096_S1x128x4096_0_0_0)).write (Elt F) f (k0_pay1 (xs c)) Finset.univ i = full xs c i := by
  intro i hi
  rw [← slot_set] at hi
  obtain ⟨x, -, rfl⟩ := Finset.mem_map.mp hi
  refine (View.write_emb_of_mem (v := (CM).access (Rect.unit (s := S32x128x4096) ![0, 0, 0] S1x128x4096.size
    inb_S32x128x4096_S1x128x4096_0_0_0)) f (k0_pay1 (xs c)) (M := Finset.univ) (x := x) (Finset.mem_univ _)).trans ?_
  have h := congrFun (read_slot xs c 0) x
  rw [orig_zero] at h
  exact h.symm

/-- A copy of a half of the full buffer lands as the half of the neighbour's full buffer. -/
theorem write_half (d : Bool) (i : Fin 16) (s : Fin 2) (c : Dev nD) (fd : cc0_scratch0.ty.Contents (Elt F)) :
    ∀ j ∈ halfSet (dst d i) s, (half CM (dst d i) s).view.write (Elt F) fd
      ((half CM (src d i) s).view.read (Elt F) (full xs c)) Finset.univ j = full xs (nb d c) j := by
  intro j hj
  rw [← half_set] at hj
  obtain ⟨x, -, rfl⟩ := Finset.mem_map.mp hj
  refine (View.write_emb_of_mem (v := (half CM (dst d i) s).view) fd _ (M := Finset.univ) (x := x) (Finset.mem_univ _)).trans ?_
  generalize hy : Shape.reshapeEquiv (squeezes_S1x64x4096_S64x4096.numel_eq) x = y
  have hs : (half CM (src d i) s).view.emb x
      = (Rect.unit (s := S32x128x4096) ![(src d i).val, 64 * s.val, 0] S1x64x4096.size (half_inb _ s)).emb y := by
    rw [← hy]; rfl
  have hd : (half CM (dst d i) s).view.emb x
      = (Rect.unit (s := S32x128x4096) ![(dst d i).val, 64 * s.val, 0] S1x64x4096.size (half_inb _ s)).emb y := by
    rw [← hy]; rfl
  have hy0 : (y 0).val < 1 := (y 0).isLt
  refine (congrArg (full xs c) hs).trans (Eq.trans ?_ (congrArg (full xs (nb d c)) hd).symm)
  unfold full
  have e0 : (Rect.unit (s := S32x128x4096) ![(src d i).val, 64 * s.val, 0] S1x64x4096.size (half_inb _ s)).emb y 0
      = src d i := Fin.ext (by show (src d i).val + 1 * (y 0).val = _; omega)
  have e1 : (Rect.unit (s := S32x128x4096) ![(dst d i).val, 64 * s.val, 0] S1x64x4096.size (half_inb _ s)).emb y 0
      = dst d i := Fin.ext (by show (dst d i).val + 1 * (y 0).val = _; omega)
  rw [e0, e1, orig_nb]
  congr 1

/-- Storing a block's product makes its rows what they will be. -/
theorem write_rows (o : Dev nD) (sc : F .f32) (w : FVec F S4096x256 .bf16) (f : cc0_stg6_0.ty.Contents (Elt F)) :
    ∀ i ∈ rowSet o, ((OM).access (Rect.unit (s := S4096x256) ![128 * o.val, 0] S128x256.size (row_inb o))).write
      (Elt F) f (k0_pay7 sc w (k0_pay1 (xs o))) Finset.univ i = result xs sc w i := by
  intro i hi
  have hi' := mem_rowSet.mp hi
  rw [← row_set] at hi
  obtain ⟨x, -, rfl⟩ := Finset.mem_map.mp hi
  refine (View.write_emb_of_mem
    (v := (OM).access (Rect.unit (s := S4096x256) ![128 * o.val, 0] S128x256.size (row_inb o))) f _ (M := Finset.univ) (x := x) (Finset.mem_univ _)).trans ?_
  unfold result
  have hx0 : (x 0).val < 128 := (x 0).isLt
  have e : x = inBlock (((OM).access (Rect.unit (s := S4096x256) ![128 * o.val, 0] S128x256.size (row_inb o))).emb x) := by
    funext a
    match a with
    | 0 => exact Fin.ext (by show (x 0).val = (128 * o.val + 1 * (x 0).val) % 128; omega)
    | 1 => exact Fin.ext (by show (x 1).val = 0 + 1 * (x 1).val; omega)
  rw [← e]
  have e' : ∀ h, (⟨(((OM).access (Rect.unit (s := S4096x256) ![128 * o.val, 0] S128x256.size
      (row_inb o))).emb x 0).val / 128, h⟩ : Dev nD) = o := fun h => Fin.ext hi'
  rw [e']
  exact cast_eq _ _

end Cert.KernelIdeal.Body

end

end
-- ==== Proof.Schedule.lean ====
/- The protocol of the ring: which cell counts what, what each of its units hands over, and what a device owes.

   Every message has a cell for its departure on the sender and a cell for its arrival on the receiver. The
   departure hands the copied-out half back; the arrival hands over the half it wrote, at named contents. A device's
   barrier cell collects one unit from each neighbour, and each unit hands over the halves of that neighbour this
   device will write. Levels: the barrier lies below every arrival, and the arrivals of an earlier hop below those
   of a later one, so a device that waits for hop `i` while it owes the copies of hop `i + 1` cannot close a cycle. -/
module

public import proofs.«01_k».proof.Proof.Geometry
public import proofs.«01_k».proof.Proof.Gen.KernelIdeal.Launch
public import Idealize.ShloMosaic.Lib.Pipeline.BigSepL
public import Idealize.ShloMosaic.Lib.Pipeline.RegionTalk

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The resources: the windows' protocol and the ring's, whose cells have up to two contributors. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Cells -/

/-- What a cell counts. -/
inductive Role where
  | bar
  | send (m : Msg)
  | recv (m : Msg)
  | other
deriving DecidableEq

/-- The message whose cell lies at the place `k` of an array of cells. -/
def msgAt (d : Bool) (k : ℕ) : Msg := (d, Fin.ofNat 16 (k / 2), Fin.ofNat 2 k)

/-- What a cell counts, by its number. -/
def role : SemLoc sig → Role
  | .reg _ => .bar
  | .dma n =>
    if n.val < 7 then .other
    else if n.val < 39 then .send (msgAt false (n.val - 7))
    else if n.val < 71 then .recv (msgAt false (n.val - 39))
    else if n.val < 103 then .send (msgAt true (n.val - 71))
    else .recv (msgAt true (n.val - 103))

/-- The cells of the departures, by direction. -/
def sendA : Bool → DmaSems sig S16x2 := fun d => bif d then cc0_scratch3 else cc0_scratch1
/-- The cells of the arrivals, by direction. -/
def recvA : Bool → DmaSems sig S16x2 := fun d => bif d then cc0_scratch4 else cc0_scratch2

abbrev sendSem (m : Msg) : DmaSem sig := semAt (sendA m.1) m.2.1 m.2.2
abbrev recvSem (m : Msg) : DmaSem sig := semAt (recvA m.1) m.2.1 m.2.2
abbrev barSem : Sem sig := (SemArray.scalar (sig.barrier 0 rfl) : Sems sig S_).sem

abbrev barCell (c : Dev nD) : GSem nD τ sig := ((c : Thread nD τ), .reg barSem)
abbrev sendCell (c : Dev nD) (m : Msg) : GSem nD τ sig := ((c : Thread nD τ), .dma (sendSem m))
abbrev recvCell (c : Dev nD) (m : Msg) : GSem nD τ sig := ((c : Thread nD τ), .dma (recvSem m))

theorem role_send : ∀ m : Msg, role (.dma (sendSem m)) = .send m := by decide +kernel
theorem role_recv : ∀ m : Msg, role (.dma (recvSem m)) = .recv m := by decide +kernel
theorem role_bar : role (.reg barSem) = .bar := rfl

/-- A copy's bytes, the units its cells count. -/
abbrev N : ℕ := (half CM 0 0).view.dmaCredit
theorem N_pos : 0 < N := View.dmaCredit_pos _ (by decide)

/-! ## What is handed over -/

/-- Half `s` of slot `sl` of device `c`'s gathering buffer. -/
abbrev halfPts (c : Dev nD) (sl : Fin 32) (s : Fin 2) (q : PosShare TreeShare)
    (f : Buf (Elt F) ((half CM sl s).view.loc (c : Thread nD τ))) : sProp 𝕄 :=
  (half CM sl s).view.loc (c : Thread nD τ) ↦[(half CM sl s).view.set]{q} f

variable (xs : Dev nD → Vec F S128x4096 .fp8e5m2)

/-- The half message `m` writes on device `c`, at contents not chosen. -/
def anyHalf (c : Dev nD) (m : Msg) : sProp 𝕄 := iprop(∃ f, halfPts (F := F) c (dst m.1 m.2.1) m.2.2 fullShare f)

/-- An assertion that stands only in one case. -/
def opt (b : Bool) (X : sProp 𝕄) : sProp 𝕄 := if b then X else iprop(emp)

/-- The leave to write the half of message `m` on device `c`. -/
def target (c : Dev nD) (m : Msg) : sProp 𝕄 := iprop(anyHalf c m ∗ reached ER (recvCell c m) 0)

/-- What the neighbour of direction `d` pays to device `c`'s barrier cell: every half that `c` copies there. -/
def barPay (c : Dev nD) (d : Bool) : sProp 𝕄 :=
  bigSep (Finset.univ : Finset (Fin 16 × Fin 2)) fun p => opt (used (d, p)) (target (nb d c) (d, p))

/-- The share of its source a copy takes along: a half of it, and of the own block's second copies a quarter. -/
def lent (m : Msg) : PosShare TreeShare := if m.1 = true ∧ m.2.1 = 0 then fullShare.right.left else fullShare.left

def sendPay (c : Dev nD) (m : Msg) : sProp 𝕄 := halfPts c (src m.1 m.2.1) m.2.2 (lent m) (full xs c)
def recvPay (c : Dev nD) (m : Msg) : sProp 𝕄 := halfPts c (dst m.1 m.2.1) m.2.2 fullShare (full xs c)

/-- The duties of a cell of the given role. -/
def dutiesOf : Role → Finset Bool
  | .bar => Finset.univ
  | .send m => if used m then {false} else ∅
  | .recv m => if used m then {false} else ∅
  | .other => ∅

def payloadOf (c : Dev nD) (d : Bool) : Role → sProp 𝕄
  | .bar => barPay c d
  | .send m => sendPay xs c m
  | .recv m => recvPay xs c m
  | .other => iprop(emp)

/-- One round: two duties on every barrier cell, one on both cells of every copy the kernel makes. -/
def rd : Rounds.Schedule (GSem nD τ sig) Bool 𝕄 where
  duties g r := if r = 0 ∧ g.1.2 = .tc then dutiesOf (role g.2) else ∅
  unitless _ := False
  amount g _ _ := if role g.2 = .bar then 1 else N
  payload g _ d := payloadOf xs g.1.1 d (role g.2)
  amount_pos g _ _ _ := by
    by_cases h : role g.2 = .bar
    · rw [if_pos h]; exact Nat.one_pos
    · rw [if_neg h]; exact N_pos

instance opt_storable (b : Bool) (X : sProp 𝕄) [BI.Storable (upEmb : UEmb _ 𝕄) X] :
    BI.Storable (upEmb : UEmb _ 𝕄) (opt b X) := by
  unfold opt; split <;> infer_instance

instance barPay_storable (c : Dev nD) (d : Bool) : BI.Storable (upEmb : UEmb _ 𝕄) (barPay (F := F) c d) := by
  unfold barPay target anyHalf; infer_instance

instance halfPts_storable (c : Dev nD) (sl : Fin 32) (s : Fin 2) (q : PosShare TreeShare)
    (f : Buf (Elt F) ((half CM sl s).view.loc (c : Thread nD τ))) :
    BI.Storable (upEmb : UEmb _ 𝕄) (halfPts c sl s q f) := inferInstance

instance sendPay_storable (c : Dev nD) (m : Msg) : BI.Storable (upEmb : UEmb _ 𝕄) (sendPay xs c m) := by
  unfold sendPay; exact halfPts_storable ..
instance recvPay_storable (c : Dev nD) (m : Msg) : BI.Storable (upEmb : UEmb _ 𝕄) (recvPay xs c m) := by
  unfold recvPay; exact halfPts_storable ..

instance rd_storable (g : GSem nD τ sig) (r : ℕ) (d : Bool) :
    BI.Storable (upEmb : UEmb _ 𝕄) ((rd (F := F) xs).payload g r d) := by
  show BI.Storable upEmb (payloadOf xs g.1.1 d (role g.2))
  cases role g.2 with
  | bar => exact barPay_storable _ _
  | send m => exact sendPay_storable xs _ _
  | recv m => exact recvPay_storable xs _ _
  | other => show BI.Storable upEmb (iprop(emp) : sProp 𝕄); infer_instance

section Facts

variable (c : Dev nD) (m : Msg)

theorem duties_bar : (rd (F := F) xs).duties (barCell c) 0 = Finset.univ := by
  dsimp only [rd]; rw [if_pos ⟨rfl, rfl⟩, role_bar]; rfl
theorem duties_send (h : used m = true) : (rd (F := F) xs).duties (sendCell c m) 0 = {false} := by
  dsimp only [rd]; rw [if_pos ⟨rfl, rfl⟩, role_send]; exact if_pos h
theorem duties_recv (h : used m = true) : (rd (F := F) xs).duties (recvCell c m) 0 = {false} := by
  dsimp only [rd]; rw [if_pos ⟨rfl, rfl⟩, role_recv]; exact if_pos h
theorem duties_send_not (h : used m = false) (r : ℕ) : (rd (F := F) xs).duties (sendCell c m) r = ∅ := by
  dsimp only [rd]; split
  · rw [role_send]; exact if_neg (by rw [h]; decide)
  · rfl
theorem duties_recv_not (h : used m = false) (r : ℕ) : (rd (F := F) xs).duties (recvCell c m) r = ∅ := by
  dsimp only [rd]; split
  · rw [role_recv]; exact if_neg (by rw [h]; decide)
  · rfl
theorem duties_later (g : GSem nD τ sig) : ∀ r, 1 ≤ r → (rd (F := F) xs).duties g r = ∅ :=
  fun r hr => by dsimp only [rd]; exact if_neg fun h => by omega

theorem amount_bar (r : ℕ) (d : Bool) : (rd (F := F) xs).amount (barCell c) r d = 1 := by
  dsimp only [rd]; exact if_pos rfl
theorem amount_send (r : ℕ) (d : Bool) : (rd (F := F) xs).amount (sendCell c m) r d = N := by
  dsimp only [rd]; rw [role_send]; exact if_neg (by simp)
theorem amount_recv (r : ℕ) (d : Bool) : (rd (F := F) xs).amount (recvCell c m) r d = N := by
  dsimp only [rd]; rw [role_recv]; exact if_neg (by simp)

theorem expect_bar : (rd (F := F) xs).expect (barCell c) 0 = 2 := by
  unfold Schedule.expect Schedule.amountOf
  rw [duties_bar, Finset.sum_congr rfl fun d _ => amount_bar xs c 0 d]; rfl
theorem expect_send (h : used m = true) : (rd (F := F) xs).expect (sendCell c m) 0 = N := by
  unfold Schedule.expect Schedule.amountOf; rw [duties_send xs c m h, Finset.sum_singleton, amount_send]
theorem expect_recv (h : used m = true) : (rd (F := F) xs).expect (recvCell c m) 0 = N := by
  unfold Schedule.expect Schedule.amountOf; rw [duties_recv xs c m h, Finset.sum_singleton, amount_recv]

theorem payload_bar (r : ℕ) (d : Bool) : (rd (F := F) xs).payload (barCell c) r d = barPay c d := rfl
theorem payload_send (r : ℕ) (d : Bool) : (rd (F := F) xs).payload (sendCell c m) r d = sendPay xs c m := by
  dsimp only [rd]; rw [role_send]; rfl
theorem payload_recv (r : ℕ) (d : Bool) : (rd (F := F) xs).payload (recvCell c m) r d = recvPay xs c m := by
  dsimp only [rd]; rw [role_recv]; rfl

theorem rest_bar : bigSep ((rd (F := F) xs).duties (barCell c) 0 \ ∅) (fun d => (rd (F := F) xs).payload (barCell c) 0 d)
    = iprop(barPay c false ∗ barPay c true) := by
  rw [Finset.sdiff_empty, duties_bar]
  exact bigSep_univ_eq_bigSepL [false, true] (by decide) (by decide) _
theorem rest_send (h : used m = true) :
    bigSep ((rd (F := F) xs).duties (sendCell c m) 0 \ ∅) (fun d => (rd (F := F) xs).payload (sendCell c m) 0 d)
      = sendPay xs c m := by
  rw [Finset.sdiff_empty, duties_send xs c m h, bigSep_singleton, payload_send]
theorem rest_recv (h : used m = true) :
    bigSep ((rd (F := F) xs).duties (recvCell c m) 0 \ ∅) (fun d => (rd (F := F) xs).payload (recvCell c m) 0 d)
      = recvPay xs c m := by
  rw [Finset.sdiff_empty, duties_recv xs c m h, bigSep_singleton, payload_recv]

end Facts

/-! ## Levels and dues -/

def L (g : GSem nD τ sig) : Finset Unit := if g.1.2 = .tc then {()} else ∅

def levelOf : Role → ℕ
  | .bar => 1
  | .send _ => 0
  | .recv m => m.2.1.val + 2
  | .other => 0

def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl

/-- What device `c` owes for message `m`. -/
def owed (c : Dev nD) (m : Msg) : CellTallies nD τ sig Unit :=
  bif used m then tallyAt (recvCell (nb m.1 c) m) () N else 0

/-- What it owes for what the hops of a list pass on. -/
def owedHops (c : Dev nD) : List (Fin 15) → CellTallies nD τ sig Unit
  | [] => 0
  | i :: l => owedHops c l + owed c (true, i.succ, 1) + owed c (false, i.succ, 1)
      + owed c (true, i.succ, 0) + owed c (false, i.succ, 0)

/-- What it owes for the first copies and all hops. -/
def owedAll (c : Dev nD) : CellTallies nD τ sig Unit :=
  owedHops c hops + owed c (true, 0, 1) + owed c (false, 0, 1) + owed c (true, 0, 0) + owed c (false, 0, 0)

/-- What it owes at launch. -/
def O₀ (c : Dev nD) : CellTallies nD τ sig Unit :=
  owedAll c + tallyAt (barCell (nb false c)) () 1 + tallyAt (barCell (nb true c)) () 1

/-- Everything owed lies on a core's cell above the level `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)

theorem Above.add {b : ℕ} {O O' : CellTallies nD τ sig Unit} (h : Above b O) (h' : Above b O') : Above b (O + O') := by
  intro g u hg
  rw [Pi.add_apply, Finsupp.add_apply] at hg
  rcases Nat.add_pos_iff_pos_or_pos.mp hg with hg | hg
  · exact h g u hg
  · exact h' g u hg

theorem above_tally {b : ℕ} {g : GSem nD τ sig} {n : ℕ} (ht : g.1.2 = .tc) (hb : b < lv g ()) :
    Above b (tallyAt g () n) := by
  intro g' u hg
  rw [tallyAt_apply] at hg
  by_cases h : g' = g ∧ u = ()
  · rw [h.1]; exact ⟨ht, hb⟩
  · rw [if_neg h] at hg; exact absurd hg (Nat.lt_irrefl 0)

theorem Above.mono {b b' : ℕ} {O : CellTallies nD τ sig Unit} (h : Above b O) (hb : b' ≤ b) : Above b' O :=
  fun g u hg => ⟨(h g u hg).1, lt_of_le_of_lt hb (h g u hg).2⟩

theorem lv_recv (c : Dev nD) (m : Msg) : lv (recvCell c m) () = m.2.1.val + 2 := by unfold lv; rw [role_recv]; rfl
theorem lv_bar (c : Dev nD) : lv (barCell c) () = 1 := rfl

theorem above_owed (c : Dev nD) (m : Msg) {b : ℕ} (hb : b < m.2.1.val + 2) : Above b (owed c m) := by
  unfold owed
  cases used m
  · exact above_zero b
  · exact above_tally rfl (by rw [lv_recv]; exact hb)

theorem above_hops (c : Dev nD) (b : ℕ) : ∀ l : List (Fin 15), (∀ j ∈ l, b < j.val + 3) → Above b (owedHops c l)
  | [], _ => above_zero b
  | i :: l, h => by
    have hi : b < i.succ.val + 2 := by rw [Fin.val_succ]; have := h i (List.mem_cons_self ..); omega
    exact ((((above_hops c b l fun j hj => h j (List.mem_cons_of_mem _ hj)).add (above_owed c _ hi)).add
      (above_owed c _ hi)).add (above_owed c _ hi)).add (above_owed c _ hi)

theorem above_all (c : Dev nD) : Above 1 (owedAll c) :=
  ((((above_hops c 1 hops fun j _ => by omega).add (above_owed c _ (by show 1 < _ + 2; omega))).add
    (above_owed c _ (by show 1 < _ + 2; omega))).add (above_owed c _ (by show 1 < _ + 2; omega))).add
    (above_owed c _ (by show 1 < _ + 2; omega))

theorem mayWait (c : Dev nD) (sm : SemLoc sig) {O : CellTallies nD τ sig Unit}
    (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.KernelIdeal.Body

end

end
-- ==== Proof.Steps.lean ====
/- One step of the kernel at a time, at any message: a copy, an arrival, a departure, the product of a block. Each
   says what the step takes, what it gives back, and that the rest of the program goes on from there. -/
module

public import proofs.«01_k».proof.Proof.Schedule

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (xs : Dev nD → Vec F S128x4096 .fp8e5m2) (K : GSem nD τ sig → ℕ) (c : Dev nD)

/-! ## What a device knows and holds -/

/-- The invariants of the cells of message `m` that device `c` touches. -/
def msgInvs (m : Msg) : sProp 𝕄 :=
  iprop(cellInv ER (rd xs) (K (sendCell c m)) (sendCell c m) ∗ cellInv ER (rd xs) (K (recvCell c m)) (recvCell c m)
    ∗ cellInv ER (rd xs) (K (recvCell (nb m.1 c) m)) (recvCell (nb m.1 c) m))

/-- The invariants device `c` opens: its own cells', its neighbours' barrier cells' and the arrival cells' it copies to. -/
def invs : sProp 𝕄 :=
  iprop(cellInv ER (rd xs) (K (barCell c)) (barCell c)
    ∗ (cellInv ER (rd xs) (K (barCell (nb false c))) (barCell (nb false c))
      ∗ cellInv ER (rd xs) (K (barCell (nb true c))) (barCell (nb true c)))
    ∗ bigSep (Finset.univ : Finset Msg) (msgInvs xs K c))

instance msgInvs_persistent (m : Msg) : BI.Persistent (msgInvs xs K c m) := by unfold msgInvs; infer_instance
instance invs_persistent : BI.Persistent (invs xs K c) := by unfold invs; infer_instance

/-- Beside them, that the cells' first round is reached, and the levels. -/
def known : sProp 𝕄 :=
  iprop(invs xs K c ∗ (bigSep (Finset.univ : Finset Msg) fun m => iprop(reached ER (sendCell c m) 0 ∗ reached ER (recvCell c m) 0))
    ∗ levAts L lv)

instance known_persistent : BI.Persistent (known xs K c) := by unfold known; infer_instance

/-- One of all. -/
theorem pick {I : Type} [Fintype I] [DecidableEq I] (i : I) {Φ : I → sProp 𝕄} :
    (bigSep (Finset.univ : Finset I) Φ) ⊢ Φ i := bigSep_elim (Finset.mem_univ i)

theorem known_msg (m : Msg) : known xs K c ⊢ msgInvs xs K c m := by
  unfold known invs
  iintro ⟨⟨-, -, #H⟩, -, -⟩
  iapply (pick m (Φ := msgInvs xs K c)); iexact H

theorem known_reached (m : Msg) :
    known xs K c ⊢ iprop(reached ER (sendCell c m) 0 ∗ reached ER (recvCell c m) 0) := by
  unfold known
  iintro ⟨-, #H, -⟩
  iapply (pick m
    (Φ := fun m => (iprop(reached ER (sendCell c m) 0 ∗ reached ER (recvCell c m) 0) : sProp 𝕄))); iexact H

theorem known_lev : known xs K c ⊢ (levAts L lv : sProp 𝕄) := by
  unfold known; iintro ⟨-, -, H⟩; iexact H

/-- What device `c` still owes, whatever it has waited for. -/
def owesW (O : CellTallies nD τ sig Unit) : sProp 𝕄 := iprop(∃ W, owes (c : Thread nD τ) O W)

/-- Half `s` of slot `sl` at what arrives there. -/
def got (sl : Fin 32) (s : Fin 2) (q : PosShare TreeShare) : sProp 𝕄 := halfPts c sl s q (full xs c)

theorem sendPay_eq (m : Msg) : sendPay xs c m = got xs c (src m.1 m.2.1) m.2.2 (lent m) := rfl
theorem recvPay_eq (m : Msg) : recvPay xs c m = got xs c (dst m.1 m.2.1) m.2.2 fullShare := rfl

/-- A share and its two halves. -/
theorem got_split (sl : Fin 32) (s : Fin 2) (q : PosShare TreeShare) :
    got xs c sl s q = iprop(got xs c sl s q.left ∗ got xs c sl s q.right) :=
  Entails.antisymm (pointsTo_share (PosShare.mem_left_op_right q)).1 (pointsTo_share (PosShare.mem_left_op_right q)).2

/-- Ready to send message `m`. -/
def Ready (m : Msg) : sProp 𝕄 :=
  iprop(opt (used m) iprop(target (nb m.1 c) m ∗ dutyTok ER (sendCell c m) 0 false
      ∗ dutyTok ER (recvCell (nb m.1 c) m) 0 false)
    ∗ atPos ER (sendCell c m) 0 ∅ 0)

/-- Message `m` is awaited. -/
def Await (m : Msg) : sProp 𝕄 :=
  iprop(cred (tallyAt (recvCell c m) () N) ∗ atPos ER (recvCell c m) 0 ∅ 0)

/-- The departure of message `m` is done, or there was none. -/
def Back (m : Msg) : sProp 𝕄 :=
  iprop(sendPay xs c m ∗ atPos ER (sendCell c m) (if used m then 1 else 0) ∅ 0)

/-- Message `m` is on its way, or was not to be sent. -/
def Out (m : Msg) : sProp 𝕄 :=
  if used m then iprop(cred (tallyAt (sendCell c m) () N) ∗ atPos ER (sendCell c m) 0 ∅ 0) else Back xs c m

/-- The neighbours as the program names them. -/
abbrev nbs : Bool → Dev nD := fun d => nb d c

/-! ## Messages -/

theorem send_step (m : Msg) (hu : used m = true) (O : CellTallies nD τ sig Unit) (k : P F) (Kt : PUnit → sProp 𝕄) :
    iprop(known xs K c ∗ sendPay xs c m ∗ Ready c m ∗ owesW c (O + owed c m))
      ⊢ iprop(((Out xs c m ∗ owesW c O) -∗ wp frame (wpE (defs₀ (F := F)) 𝒱₀ (c : Thread nD τ) none) Set.univ k Kt) -∗ wp frame (wpE (defs₀ (F := F)) 𝒱₀ (c : Thread nD τ) none) Set.univ (send CM CM_whole sendA recvA (nbs c) m k) Kt) := by
  unfold Ready opt Out owesW
  rw [if_pos hu, if_pos hu]
  unfold target anyHalf sendPay
  iintro ⟨#Hk, Hs, ⟨⟨⟨⟨%fd, Hd⟩, #Hr2⟩, Ht1, Ht2⟩, Hat⟩, ⟨%W, HO⟩⟩ Hc
  ihave #Hi := (known_msg xs K c m) $$ Hk
  ihave #Hr := (known_reached xs K c m) $$ Hk
  unfold msgInvs
  icases Hi with ⟨#Hi1, -, #Hi2⟩
  icases Hr with ⟨#Hr1, -⟩
  unfold send
  iapply (Rounds.wp_send_pointsTo 𝒱₀ ER (rd xs) (c : Thread nD τ) none (c' := (nb m.1 c : Thread nD τ))
      (src := half CM (src m.1 m.2.1) m.2.2) (dst := half CM (dst m.1 m.2.1) m.2.2)
      (sS := .dma (sendSem m)) (sem := .dma (recvSem m)) (q := lent m) (fs := full xs c)
      (κ₁ := K (sendCell c m)) (κ₂ := K (recvCell (nb m.1 c) m))
      (r₁ := 0) (r₂ := 0) (d₁ := false) (d₂ := false) (fd := fd)
      (by rw [duties_send xs c m hu]; exact Finset.mem_singleton_self _)
      (by rw [duties_recv xs (nb m.1 c) m hu]; exact Finset.mem_singleton_self _)
      () () N rfl (amount_send xs c m 0 false) (amount_recv xs (nb m.1 c) m 0 false) (O₀ := O + owed c m) O
      (by unfold owed; rw [hu]; rfl) (W := W)
      (by rw [payload_send]; exact BI.Entails.refl _)
      (by rw [payload_recv]; unfold recvPay
          exact Entails.of_eq (pointsTo_congr fun i hi => write_half xs m.1 m.2.1 m.2.2 c fd i (half_set _ _ ▸ hi)))) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hc
  isplitl [Hcr Hat]; · isplitl [Hcr] <;> iassumption
  iexists W; iexact HO

theorem sendIf_step (m : Msg) (O : CellTallies nD τ sig Unit) (k : P F) (Kt : PUnit → sProp 𝕄) :
    iprop(known xs K c ∗ sendPay xs c m ∗ Ready c m ∗ owesW c (O + owed c m))
      ⊢ iprop(((Out xs c m ∗ owesW c O) -∗ wp frame (wpE (defs₀ (F := F)) 𝒱₀ (c : Thread nD τ) none) Set.univ k Kt) -∗ wp frame (wpE (defs₀ (F := F)) 𝒱₀ (c : Thread nD τ) none) Set.univ (sendIf CM CM_whole sendA recvA (nbs c) m k) Kt) := by
  cases hu : used m with
  | true =>
    have e : sendIf CM CM_whole sendA recvA (nbs c) m k = send CM CM_whole sendA recvA (nbs c) m k := by
      unfold sendIf; rw [hu]; rfl
    rw [e]; exact send_step xs K c m hu O k Kt
  | false =>
    have e : sendIf CM CM_whole sendA recvA (nbs c) m k = k := by unfold sendIf; rw [hu]; rfl
    have eO : O + owed c m = O := by unfold owed; rw [hu]; exact add_zero O
    rw [e, eO]
    unfold Ready Out Back
    rw [hu, if_neg (by decide), if_neg (by decide)]
    iintro ⟨-, Hs, ⟨-, Hat⟩, HO⟩ Hc
    iapply Hc
    isplitl [Hs Hat]; · isplitl [Hs] <;> iassumption
    iexact HO

theorem recv_step (m : Msg) (hu : used m = true) {O : CellTallies nD τ sig Unit} (hO : Above (m.2.1.val + 2) O)
    (k : P F) (Kt : PUnit → sProp 𝕄) :
    iprop(known xs K c ∗ Await c m ∗ owesW c O)
      ⊢ iprop(((recvPay xs c m ∗ atPos ER (recvCell c m) 1 ∅ 0 ∗ owesW c O) -∗ wp frame (wpE (defs₀ (F := F)) 𝒱₀ (c : Thread nD τ) none) Set.univ k Kt)
          -∗ wp frame (wpE (defs₀ (F := F)) 𝒱₀ (c : Thread nD τ) none) Set.univ (recv CM CM_whole recvA m k) Kt) := by
  have hO' : Above (lv (recvCell c m) ()) O := fun g u hg => by rw [lv_recv]; exact hO g u hg
  have hw : known xs K c ⊢ MayWait (c : Thread nD τ) (.dma (recvSem m)) () O :=
    by
      have h1 := @known_lev F _ xs K c
      have h2 := mayWait (F := F) c (.dma (recvSem m)) hO'
      exact BI.Entails.trans h1 h2
  unfold Await owesW
  iintro ⟨#Hk, ⟨Hcr, Hat⟩, ⟨%W, HO⟩⟩ Hc
  ihave #Hi := (known_msg xs K c m) $$ Hk
  unfold msgInvs
  icases Hi with ⟨-, #Hi, -⟩
  unfold recv
  iapply (Rounds.wp_wait_rest_token 𝒱₀ ER (rd xs) (c : Thread nD τ) none (κ := K (recvCell c m))
      (wpE_waitDma2_eq (src := half CM (src m.1 m.2.1) m.2.2)
        (dst := half CM (dst m.1 m.2.1) m.2.2) (hsrc := half_we CM_whole _ _) (hdst := half_we CM_whole _ _) 𝒱₀ (c : Thread nD τ) none Set.univ) (Set.mem_univ _) () (O := O) (W := W) (R := 0) (m := 0) (T := ∅)
      ((Nat.zero_add _).trans (expect_recv xs c m hu).symm)) $$ [Hcr HO Hat]
  · isplitr; · iexact Hi
    isplitl [Hcr]; · iexact Hcr
    isplitl [HO]; · iexact HO
    isplitr
    · iapply hw; iexact Hk
    iexact Hat
  iintro ⟨HO, Hat, -, Hpay⟩
  ihave Hp := (Entails.of_eq (rest_recv xs c m hu)) $$ Hpay
  iapply Hc
  isplitl [Hp]; · iexact Hp
  isplitl [Hat]; · iexact Hat
  iexists _; iexact HO

theorem sent_step (m : Msg) (hu : used m = true) (k : P F) (Kt : PUnit → sProp 𝕄) :
    iprop(known xs K c ∗ Out xs c m ∗ owesW c 0)
      ⊢ iprop(((Back xs c m ∗ owesW c 0) -∗ wp frame (wpE (defs₀ (F := F)) 𝒱₀ (c : Thread nD τ) none) Set.univ k Kt) -∗ wp frame (wpE (defs₀ (F := F)) 𝒱₀ (c : Thread nD τ) none) Set.univ (sent CM CM_whole sendA m k) Kt) := by
  unfold Out Back owesW
  rw [if_pos hu, if_pos hu]
  iintro ⟨#Hk, ⟨Hcr, Hat⟩, ⟨%W, HO⟩⟩ Hc
  ihave #Hi := (known_msg xs K c m) $$ Hk
  unfold msgInvs
  icases Hi with ⟨#Hi, -, -⟩
  unfold sent
  iapply (Rounds.wp_wait_rest_token 𝒱₀ ER (rd xs) (c : Thread nD τ) none (κ := K (sendCell c m))
      (wpE_waitDma2_eq (src := half CM (dst m.1 m.2.1) m.2.2)
        (dst := half CM (src m.1 m.2.1) m.2.2) (hsrc := half_we CM_whole _ _) (hdst := half_we CM_whole _ _) 𝒱₀ (c : Thread nD τ) none Set.univ) (Set.mem_univ _) () (O := 0) (W := W) (R := 0) (m := 0) (T := ∅)
      ((Nat.zero_add _).trans (expect_send xs c m hu).symm)) $$ [Hcr HO Hat]
  · isplitr; · iexact Hi
    isplitl [Hcr]; · iexact Hcr
    isplitl [HO]; · iexact HO
    isplitr; · rw [MayWait_zero]; iempintro
    iexact Hat
  iintro ⟨HO, Hat, -, Hpay⟩
  ihave Hp := (Entails.of_eq (rest_send xs c m hu)) $$ Hpay
  iapply Hc
  isplitl [Hp Hat]; · isplitl [Hp] <;> iassumption
  iexists _; iexact HO

theorem used_hop : ∀ (d : Bool) (i : Fin 15) (s : Fin 2), used (d, i.castSucc, s) = true := by decide

theorem lent_succ : ∀ (d : Bool) (i : Fin 15) (s : Fin 2), lent (d, i.succ, s) = fullShare.left := fun d i s =>
  if_neg fun h => absurd h.2 (Fin.succ_ne_zero i)

theorem sendPay_succ (d : Bool) (i : Fin 15) (s : Fin 2) :
    sendPay xs c (d, i.succ, s) = got xs c (dst d i.castSucc) s fullShare.left := by
  rw [sendPay_eq, lent_succ, ← dst_succ]

/-- One arrival passed on: half of the share stays. -/
theorem relay_step (d : Bool) (i : Fin 15) (s : Fin 2) {O : CellTallies nD τ sig Unit} (hO : Above (i.val + 2) O)
    (k : P F) (Kt : PUnit → sProp 𝕄) :
    iprop(known xs K c ∗ Await c (d, i.castSucc, s) ∗ Ready c (d, i.succ, s) ∗ owesW c (O + owed c (d, i.succ, s)))
      ⊢ iprop(((got xs c (dst d i.castSucc) s fullShare.right ∗ atPos ER (recvCell c (d, i.castSucc, s)) 1 ∅ 0
            ∗ Out xs c (d, i.succ, s) ∗ owesW c O) -∗ wp frame (wpE (defs₀ (F := F)) 𝒱₀ (c : Thread nD τ) none) Set.univ k Kt)
          -∗ wp frame (wpE (defs₀ (F := F)) 𝒱₀ (c : Thread nD τ) none) Set.univ (relay CM CM_whole sendA recvA (nbs c) d i s k) Kt) := by
  unfold relay
  iintro ⟨#Hk, Ha, Hr, HO⟩ Hc
  iapply (recv_step xs K c (d, i.castSucc, s) (used_hop d i s)
    (hO.add (above_owed c (d, i.succ, s) (by show i.val + 2 < i.val + 1 + 2; omega)))) $$ [Ha HO]
  · isplitr; · iexact Hk
    isplitl [Ha] <;> iassumption
  iintro ⟨Hp, Hat, HO⟩
  ihave Hp := (Entails.of_eq ((recvPay_eq xs c _).trans (got_split xs c _ _ _))) $$ Hp
  icases Hp with ⟨Hl, Hr'⟩
  iapply (sendIf_step xs K c (d, i.succ, s) O) $$ [Hl Hr HO]
  · isplitr; · iexact Hk
    isplitl [Hl]
    · rw [sendPay_succ]; iexact Hl
    isplitl [Hr] <;> iassumption
  iintro ⟨Ho, HO⟩
  iapply Hc
  isplitl [Hr']; · iexact Hr'
  isplitl [Hat]; · iexact Hat
  isplitl [Ho] <;> iassumption

end Cert.KernelIdeal.Body

end

end
-- ==== Proof.Blocks.lean ====
/- The steps that touch no message: a table word, a scale, a slot of the gathering buffer, a block of the result. -/
module

public import proofs.«01_k».proof.Proof.Steps

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S128x4096 .fp8e5m2) (c : Dev nD)

/-- A buffer of device `c`, whole. -/
abbrev bufPts (r : Ref sig .tc) (f : Buf (Elt F) ((c : Thread nD τ).loc r)) : sProp 𝕄 :=
  (c : Thread nD τ).loc r ↦{fullShare} f

/-- The ring table and the table of places, in scalar memory. -/
abbrev RM : Memref sig .tc .smem S32 .i32 := Memref.whole cc0_stg4_0
abbrev QM : Memref sig .tc .smem S32 .i32 := Memref.whole cc0_stg5_0

/-- A table holds the words `t`. -/
def Holds (t : Fin 32 → BitVec 32) (f : S32.Idx → BitVec 32) : Prop := ∀ i : S32.Idx, f i = t (i 0)

/-- An element of scalar memory, read. -/
theorem smem_step {s : Shape} {e : EltTy} (a : Memref sig .tc .smem s e) (r : Rect s) (hw : (a.access r).Loads)
    (x : r.shape.Idx) (f : Buf (Elt F) ((a.access r).loc (c : Thread nD τ))) {v : Elt F e}
    (hv : (a.access r).read (Elt F) f x = v) (k : Elt F e → P F) (Kt : PUnit → sProp 𝕄) :
    ((a.access r).loc (c : Thread nD τ) ↦{fullShare} f)
      ⊢ iprop((((a.access r).loc (c : Thread nD τ) ↦{fullShare} f) -∗ wp frame (wpE (defs₀ (F := F)) 𝒱₀ (c : Thread nD τ) none) Set.univ (k v) Kt) -∗ wp frame (wpE (defs₀ (F := F)) 𝒱₀ (c : Thread nD τ) none) Set.univ (smemLoadElt a r hw x k) Kt) := by
  subst hv
  exact wp_smemLoadElt 𝒱₀ (c : Thread nD τ) none Set.univ (Finset.subset_univ _)

/-- The word of a table at the place `p`. -/
theorem holds_read {t : Fin 32 → BitVec 32} {f : S32.Idx → BitVec 32} (hf : Holds t f) (p : Fin 32)
    (ho : ∀ x, (![p.val] : Fin 1 → ℕ) x + S1.size x ≤ S32.size x) (x : S1.Idx) :
    f ((Rect.unit (s := S32) ![p.val] S1.size ho).emb x) = t p := by
  refine (hf _).trans (congrArg t (Fin.ext ?_))
  have h1 : (x 0).val < 1 := (x 0).isLt
  show p.val + 1 * (x 0).val = p.val
  omega

theorem word_ring {f : cc0_stg4_0.ty.Contents (Elt F)} (hf : Holds lit0 f) (p : Fin 32) {o : Fin 1 → ℕ}
    (ho : ∀ x, o x + S1.size x ≤ S32.size x) (e : o = ![p.val]) (k : BitVec 32 → P F) (Kt : PUnit → sProp 𝕄) :
    bufPts c cc0_stg4_0 f ⊢ iprop((bufPts c cc0_stg4_0 f -∗ wp frame (wpE (defs₀ (F := F)) 𝒱₀ (c : Thread nD τ) none) Set.univ (k (lit0 p)) Kt) -∗ wp frame (wpE (defs₀ (F := F)) 𝒱₀ (c : Thread nD τ) none) Set.univ (word RM o ho k) Kt) := by
  subst e
  exact smem_step c RM (Rect.unit (s := S32) ![p.val] S1.size ho) (View.loads_smem_one rfl numel1_S1)
    (Shape.Idx.first (numel1_S1.symm ▸ Nat.one_pos)) f (holds_read hf p ho _) k Kt

theorem word_place {f : cc0_stg5_0.ty.Contents (Elt F)} (hf : Holds lit1 f) (p : Fin 32) {o : Fin 1 → ℕ}
    (ho : ∀ x, o x + S1.size x ≤ S32.size x) (e : o = ![p.val]) (k : BitVec 32 → P F) (Kt : PUnit → sProp 𝕄) :
    bufPts c cc0_stg5_0 f ⊢ iprop((bufPts c cc0_stg5_0 f -∗ wp frame (wpE (defs₀ (F := F)) 𝒱₀ (c : Thread nD τ) none) Set.univ (k (lit1 p)) Kt) -∗ wp frame (wpE (defs₀ (F := F)) 𝒱₀ (c : Thread nD τ) none) Set.univ (word QM o ho k) Kt) := by
  subst e
  exact smem_step c QM (Rect.unit (s := S32) ![p.val] S1.size ho) (View.loads_smem_one rfl numel1_S1)
    (Shape.Idx.first (numel1_S1.symm ▸ Nat.one_pos)) f (holds_read hf p ho _) k Kt

/-- The only place of a one-word buffer. -/
abbrev at0 : S1.Idx := Shape.Idx.first (numel1_S1.symm ▸ Nat.one_pos)

theorem at0_eq (i : S1.Idx) : i = at0 := by
  funext a
  match a with
  | 0 =>
    have h1 : (i 0).val < 1 := (i 0).isLt
    have h2 : (at0 0).val < 1 := (at0 0).isLt
    exact Fin.ext (by omega)

theorem scale_x (f : cc0_stg2_0.ty.Contents (Elt F)) (k : F .f32 → P F) (Kt : PUnit → sProp 𝕄) :
    bufPts c cc0_stg2_0 f
      ⊢ iprop((bufPts c cc0_stg2_0 f -∗ wp frame (wpE (defs₀ (F := F)) 𝒱₀ (c : Thread nD τ) none) Set.univ (k (f at0)) Kt) -∗ wp frame (wpE (defs₀ (F := F)) 𝒱₀ (c : Thread nD τ) none) Set.univ (scale (Memref.whole cc0_stg2_0) k) Kt) :=
  smem_step c (Memref.whole cc0_stg2_0 : Memref sig .tc .smem S1 .f32) (Rect.unit (s := S1) ![0] S1.size inb_S1_S1_0)
    (View.loads_smem_one rfl numel1_S1) at0 f (congrArg f (at0_eq _)) k Kt

theorem scale_w (f : cc0_stg3_0.ty.Contents (Elt F)) (k : F .f32 → P F) (Kt : PUnit → sProp 𝕄) :
    bufPts c cc0_stg3_0 f
      ⊢ iprop((bufPts c cc0_stg3_0 f -∗ wp frame (wpE (defs₀ (F := F)) 𝒱₀ (c : Thread nD τ) none) Set.univ (k (f at0)) Kt) -∗ wp frame (wpE (defs₀ (F := F)) 𝒱₀ (c : Thread nD τ) none) Set.univ (scale (Memref.whole cc0_stg3_0) k) Kt) :=
  smem_step c (Memref.whole cc0_stg3_0 : Memref sig .tc .smem S1 .f32) (Rect.unit (s := S1) ![0] S1.size inb_S1_S1_0)
    (View.loads_smem_one rfl numel1_S1) at0 f (congrArg f (at0_eq _)) k Kt

/-! ## A slot -/

/-- Both halves of a slot at what arrives there. -/
theorem got_slot (sl : Fin 32) (q : PosShare TreeShare) :
    iprop(got xs c sl 0 q ∗ got xs c sl 1 q)
      = (((CM).view.loc (c : Thread nD τ) ↦[slotSet sl]{q} (full xs c)) : sProp 𝕄) := by
  have h := pointsTo_union (q := q) (f := full xs c) (ℓ := (CM).view.loc (c : Thread nD τ))
    (Val := Elt F) (Ix := Unit) (Name := ℕ) (U := UU) (Lvl := ℕ) (halves_disjoint sl)
  rw [← slotSet_eq] at h
  unfold got halfPts
  rw [half_set, half_set]
  exact Entails.antisymm h.2 h.1

theorem loadSlot_step (sl : Fin 32) (q : PosShare TreeShare) (k : Vec F S1x128x4096 .fp8e5m2 → P F)
    (Kt : PUnit → sProp 𝕄) :
    iprop(got xs c sl 0 q ∗ got xs c sl 1 q)
      ⊢ iprop(((got xs c sl 0 q ∗ got xs c sl 1 q) -∗ wp frame (wpE (defs₀ (F := F)) 𝒱₀ (c : Thread nD τ) none) Set.univ (k (k0_pay1 (xs (orig c sl)))) Kt)
          -∗ wp frame (wpE (defs₀ (F := F)) 𝒱₀ (c : Thread nD τ) none) Set.univ (loadSlot CM sl k) Kt) := by
  unfold loadSlot
  rw [got_slot, ← read_slot xs c sl]
  exact wp_load_rect 𝒱₀ (c : Thread nD τ) none Set.univ (m := CM)
    (r := Rect.unit (s := S32x128x4096) ![sl.val, 0, 0] S1x128x4096.size (slot_inb sl)) (S := slotSet sl)
    (Finset.subset_of_eq (slot_set sl))

/-! ## A block of the result -/

/-- The rows of device `o`'s block of the result, at contents not chosen; and at the product. -/
def rowsAny (o : Dev nD) : sProp 𝕄 :=
  iprop(∃ f : cc0_stg6_0.ty.Contents (Elt F), (OM).view.loc (c : Thread nD τ) ↦[rowSet o]{fullShare} f)
def rowsDone (sc : F .f32) (w : FVec F S4096x256 .bf16) (o : Dev nD) : sProp 𝕄 :=
  (OM).view.loc (c : Thread nD τ) ↦[rowSet o]{fullShare} (result xs sc w)

theorem putBlock_step (p : Dev nD) {o : Fin 2 → ℕ} (ho : ∀ a, o a + S128x256.size a ≤ S4096x256.size a)
    (e : o = ![128 * p.val, 0]) (sc : F .f32) (w : FVec F S4096x256 .bf16) (k : P F) (Kt : PUnit → sProp 𝕄) :
    rowsAny c p ⊢ iprop((rowsDone xs c sc w p -∗ wp frame (wpE (defs₀ (F := F)) 𝒱₀ (c : Thread nD τ) none) Set.univ k Kt)
      -∗ wp frame (wpE (defs₀ (F := F)) 𝒱₀ (c : Thread nD τ) none) Set.univ (putBlock OM o ho (k0_pay7 sc w (k0_pay1 (xs p))) k) Kt) := by
  subst e
  unfold putBlock rowsAny
  iintro ⟨%f, H⟩ Hc
  iapply (wp_load_rect 𝒱₀ (c : Thread nD τ) none Set.univ (m := OM)
    (r := Rect.unit (s := S4096x256) ![128 * p.val, 0] S128x256.size ho) (S := rowSet p) (q := fullShare) (f := f)
    (Finset.subset_of_eq (row_set p))) $$ H
  iintro H
  iapply (wp_store 𝒱₀ (c : Thread nD τ) none Set.univ (m := OM)
    (r := Rect.unit (s := S4096x256) ![128 * p.val, 0] S128x256.size ho) (S := rowSet p) (f := f)
    ((View.setOn_subset_set _ _).trans (Finset.subset_of_eq (row_set p)))) $$ H
  iintro H
  iapply Hc
  unfold rowsDone
  ihave H := (Entails.of_eq (pointsTo_congr (g := result xs sc w) fun i hi => write_rows xs p sc w f i hi)) $$ H
  iexact H

theorem block_step {T : cc0_stg4_0.ty.Contents (Elt F)} (hT : Holds lit0 T) (sl : Fin 32) (q : PosShare TreeShare)
    {o : Fin 1 → ℕ} (ho : ∀ x, o x + S1.size x ≤ S32.size x) (e : o = ![(place c + step sl).val])
    (sc : F .f32) (w : FVec F S4096x256 .bf16) (k : P F) (Kt : PUnit → sProp 𝕄) :
    iprop(bufPts c cc0_stg4_0 T ∗ (got xs c sl 0 q ∗ got xs c sl 1 q) ∗ rowsAny c (orig c sl))
      ⊢ iprop(((bufPts c cc0_stg4_0 T ∗ (got xs c sl 0 q ∗ got xs c sl 1 q) ∗ rowsDone xs c sc w (orig c sl)) -∗ wp frame (wpE (defs₀ (F := F)) 𝒱₀ (c : Thread nD τ) none) Set.univ k Kt)
          -∗ wp frame (wpE (defs₀ (F := F)) 𝒱₀ (c : Thread nD τ) none) Set.univ (block OM CM RM o ho sl sc w k) Kt) := by
  unfold block
  iintro ⟨HT, Hg, Hr⟩ Hc
  iapply (word_ring c hT (place c + step sl) ho e) $$ HT
  iintro HT
  iapply (wp_assume 𝒱₀ (c : Thread nD τ) none Set.univ (chk4 (place c + step sl)))
  iapply (loadSlot_step xs c sl q) $$ Hg
  iintro Hg
  iapply (putBlock_step xs c (orig c sl) _ (off6_eq (place c + step sl)) sc w) $$ Hr
  iintro Hr
  iapply Hc
  isplitl [HT]; · iexact HT
  isplitl [Hg] <;> iassumption

end Cert.KernelIdeal.Body

end

end
-- ==== Proof.Hops.lean ====
/- One hop of the ring, all hops, and all departures. -/
module

public import proofs.«01_k».proof.Proof.Blocks

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S128x4096 .fp8e5m2) (K : GSem nD τ sig → ℕ) (c : Dev nD)

/-- Both halves of both directions, in the order they are waited for. -/
def four (Φ : Bool → Fin 2 → sProp 𝕄) : sProp 𝕄 := iprop(Φ false 0 ∗ Φ true 0 ∗ Φ false 1 ∗ Φ true 1)

/-- A message awaited, with what it takes to pass it on. -/
def Arriving (i : Fin 15) (d : Bool) (s : Fin 2) : sProp 𝕄 :=
  iprop(Await c (d, i.castSucc, s) ∗ Ready c (d, i.succ, s))

/-- A message arrived and passed on: half of the share of what it brought, and the copy under way. -/
def Arrived (i : Fin 15) (d : Bool) (s : Fin 2) : sProp 𝕄 :=
  iprop(got xs c (dst d i.castSucc) s fullShare.right ∗ atPos ER (recvCell c (d, i.castSucc, s)) 1 ∅ 0
    ∗ Out xs c (d, i.succ, s))

/-- What a hop takes: its messages, and the rows of the two blocks it brings. -/
def HopIn (i : Fin 15) : sProp 𝕄 :=
  iprop(four (Arriving c i) ∗ rowsAny c (orig c (dst false i.castSucc)) ∗ rowsAny c (orig c (dst true i.castSucc)))

/-- What it leaves: the two blocks' products. -/
def HopOut (sc : F .f32) (w : FVec F S4096x256 .bf16) (i : Fin 15) : sProp 𝕄 :=
  iprop(four (Arrived xs c i) ∗ rowsDone xs c sc w (orig c (dst false i.castSucc))
    ∗ rowsDone xs c sc w (orig c (dst true i.castSucc)))

theorem hop_step {T : cc0_stg4_0.ty.Contents (Elt F)} (hT : Holds lit0 T) (hv : k0_chk1 (lit1 c)) (sc : F .f32)
    (w : FVec F S4096x256 .bf16) (i : Fin 15) {O : CellTallies nD τ sig Unit} (hO : Above (i.val + 2) O)
    (k : P F) (Kt : PUnit → sProp 𝕄) :
    iprop(known xs K c ∗ bufPts c cc0_stg4_0 T ∗ HopIn c i
        ∗ owesW c (O + owed c (true, i.succ, 1) + owed c (false, i.succ, 1) + owed c (true, i.succ, 0)
          + owed c (false, i.succ, 0)))
      ⊢ iprop(((bufPts c cc0_stg4_0 T ∗ HopOut xs c sc w i ∗ owesW c O) -∗ wp frame (wpE (defs₀ (F := F)) 𝒱₀ (c : Thread nD τ) none) Set.univ k Kt)
          -∗ wp frame (wpE (defs₀ (F := F)) 𝒱₀ (c : Thread nD τ) none) Set.univ (hop OM CM CM_whole sendA recvA (nbs c) RM (lit1 c) hv sc w i k) Kt) := by
  have ho : ∀ d s, Above (i.val + 2) (owed c (d, i.succ, s)) := fun d s =>
    above_owed c (d, i.succ, s) (by show i.val + 2 < i.val + 1 + 2; omega)
  unfold hop HopIn HopOut four Arriving Arrived
  iintro ⟨#Hk, HT, ⟨⟨⟨Ha0, Hr0⟩, ⟨Ha1, Hr1⟩, ⟨Ha2, Hr2⟩, Ha3, Hr3⟩, Hy0, Hy1⟩, HO⟩ Hc
  iapply (relay_step xs K c false i 0 (((hO.add (ho true 1)).add (ho false 1)).add (ho true 0))) $$ [Ha0 Hr0 HO]
  · isplitr; · iexact Hk
    isplitl [Ha0]; · iexact Ha0
    isplitl [Hr0] <;> iassumption
  iintro ⟨Hg0, Hp0, Ho0, HO⟩
  iapply (relay_step xs K c true i 0 ((hO.add (ho true 1)).add (ho false 1))) $$ [Ha1 Hr1 HO]
  · isplitr; · iexact Hk
    isplitl [Ha1]; · iexact Ha1
    isplitl [Hr1] <;> iassumption
  iintro ⟨Hg1, Hp1, Ho1, HO⟩
  iapply (relay_step xs K c false i 1 (hO.add (ho true 1))) $$ [Ha2 Hr2 HO]
  · isplitr; · iexact Hk
    isplitl [Ha2]; · iexact Ha2
    isplitl [Hr2] <;> iassumption
  iintro ⟨Hg2, Hp2, Ho2, HO⟩
  iapply (relay_step xs K c true i 1 hO) $$ [Ha3 Hr3 HO]
  · isplitr; · iexact Hk
    isplitl [Ha3]; · iexact Ha3
    isplitl [Hr3] <;> iassumption
  iintro ⟨Hg3, Hp3, Ho3, HO⟩
  iapply (block_step xs c hT (dst false i.castSucc) fullShare.right (offBack_inb (lit1 c) hv i) (offBack_eq c i) sc w) $$ [HT Hg0 Hg2 Hy0]
  · isplitl [HT]; · iexact HT
    isplitl [Hg0 Hg2]; · isplitl [Hg0] <;> iassumption
    iexact Hy0
  iintro ⟨HT, ⟨Hg0, Hg2⟩, Hy0⟩
  iapply (block_step xs c hT (dst true i.castSucc) fullShare.right (offFore_inb (lit1 c) hv i.castSucc) (offFore_eq c i.castSucc) sc w) $$ [HT Hg1 Hg3 Hy1]
  · isplitl [HT]; · iexact HT
    isplitl [Hg1 Hg3]; · isplitl [Hg1] <;> iassumption
    iexact Hy1
  iintro ⟨HT, ⟨Hg1, Hg3⟩, Hy1⟩
  iapply Hc
  isplitl [HT]; · iexact HT
  isplitr [HO]
  · isplitr [Hy0 Hy1]
    · isplitl [Hg0 Hp0 Ho0]
      · isplitl [Hg0]; · iexact Hg0
        isplitl [Hp0] <;> iassumption
      isplitl [Hg1 Hp1 Ho1]
      · isplitl [Hg1]; · iexact Hg1
        isplitl [Hp1] <;> iassumption
      isplitl [Hg2 Hp2 Ho2]
      · isplitl [Hg2]; · iexact Hg2
        isplitl [Hp2] <;> iassumption
      isplitl [Hg3]; · iexact Hg3
      isplitl [Hp3] <;> iassumption
    isplitl [Hy0] <;> iassumption
  iexact HO

/-- The hops of an increasing list, one after the other. -/
theorem hops_run {T : cc0_stg4_0.ty.Contents (Elt F)} (hT : Holds lit0 T) (hv : k0_chk1 (lit1 c)) (sc : F .f32)
    (w : FVec F S4096x256 .bf16) (k : P F) (Kt : PUnit → sProp 𝕄) :
    ∀ l : List (Fin 15), l.Pairwise (· < ·) →
      (iprop(known xs K c ∗ bufPts c cc0_stg4_0 T ∗ bigSepL l (HopIn c) ∗ owesW c (owedHops c l))
        ⊢ iprop(((bufPts c cc0_stg4_0 T ∗ bigSepL l (HopOut xs c sc w) ∗ owesW c 0) -∗ wp frame (wpE (defs₀ (F := F)) 𝒱₀ (c : Thread nD τ) none) Set.univ k Kt)
            -∗ wp frame (wpE (defs₀ (F := F)) 𝒱₀ (c : Thread nD τ) none) Set.univ (l.foldr (hop OM CM CM_whole sendA recvA (nbs c) RM (lit1 c) hv sc w) k) Kt))
  | [], _ => by
    rw [bigSepL_nil, bigSepL_nil]
    iintro ⟨-, HT, -, HO⟩ Hc
    iapply Hc
    isplitl [HT]; · iexact HT
    isplitr; · iempintro
    iexact HO
  | i :: l, hl => by
    have hl' := List.pairwise_cons.mp hl
    rw [bigSepL_cons', bigSepL_cons']
    iintro ⟨#Hk, HT, ⟨Hi, Hl⟩, HO⟩ Hc
    iapply (hop_step xs K c hT hv sc w i (O := owedHops c l)
      (above_hops c _ l fun j hj => by have : i < j := hl'.1 j hj; omega)) $$ [HT Hi HO]
    · isplitr; · iexact Hk
      isplitl [HT]; · iexact HT
      isplitl [Hi]; · iexact Hi
      iexact HO
    iintro ⟨HT, Hi, HO⟩
    iapply (hops_run hT hv sc w k Kt l hl'.2) $$ [HT Hl HO]
    · isplitr; · iexact Hk
      isplitl [HT]; · iexact HT
      isplitl [Hl] <;> iassumption
    iintro ⟨HT, Hl, HO⟩
    iapply Hc
    isplitl [HT]; · iexact HT
    isplitl [Hi Hl]; · isplitl [Hi] <;> iassumption
    iexact HO

/-- The departures of a list, one after the other. -/
theorem sents_run (k : P F) (Kt : PUnit → sProp 𝕄) :
    ∀ l : List Msg, (∀ m ∈ l, used m = true) →
      (iprop(known xs K c ∗ bigSepL l (Out xs c) ∗ owesW c 0)
        ⊢ iprop(((bigSepL l (Back xs c) ∗ owesW c 0) -∗ wp frame (wpE (defs₀ (F := F)) 𝒱₀ (c : Thread nD τ) none) Set.univ k Kt) -∗ wp frame (wpE (defs₀ (F := F)) 𝒱₀ (c : Thread nD τ) none) Set.univ (l.foldr (sent CM CM_whole sendA) k) Kt))
  | [], _ => by
    rw [bigSepL_nil, bigSepL_nil]
    iintro ⟨-, -, HO⟩ Hc
    iapply Hc
    isplitr; · iempintro
    iexact HO
  | m :: l, hl => by
    rw [bigSepL_cons', bigSepL_cons']
    iintro ⟨#Hk, ⟨Hm, Hl⟩, HO⟩ Hc
    iapply (sent_step xs K c m (hl m (List.mem_cons_self ..))) $$ [Hm HO]
    · isplitr; · iexact Hk
      isplitl [Hm] <;> iassumption
    iintro ⟨Hm, HO⟩
    iapply (sents_run k Kt l fun j hj => hl j (List.mem_cons_of_mem _ hj)) $$ [Hl HO]
    · isplitr; · iexact Hk
      isplitl [Hl] <;> iassumption
    iintro ⟨Hl, HO⟩
    iapply Hc
    isplitl [Hm Hl]; · isplitl [Hm] <;> iassumption
    iexact HO

end Cert.KernelIdeal.Body

end

end
-- ==== Proof.Parts.lean ====
/- How the messages, the slots and the blocks of rows are grouped: by the first hop and the rest, by the last hop and
   the rest, by the order of the departures; and how the two buffers fall into their parts. -/
module

public import proofs.«01_k».proof.Proof.Hops

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Messages -/

/-- The four messages of a hop. -/
def fours (i : Fin 16) : List Msg := [(false, i, 0), (true, i, 0), (false, i, 1), (true, i, 1)]

theorem bigSepL_fours (X : Msg → sProp 𝕄) (i : Fin 16) : bigSepL (fours i) X = four fun d s => X (d, i, s) := rfl

theorem bigSepL_flatMap {I J : Type} (g : I → List J) (X : J → sProp 𝕄) :
    ∀ l : List I, bigSepL (l.flatMap g) X = bigSepL l fun i => bigSepL (g i) X
  | [] => rfl
  | i :: l => by rw [List.flatMap_cons, bigSepL_append, bigSepL_cons', bigSepL_flatMap g X l]

theorem hops_univ (Φ : Fin 15 → sProp 𝕄) : bigSepL hops Φ = bigSep Finset.univ Φ :=
  (bigSep_univ_eq_bigSepL hops (by decide) (by decide) Φ).symm

theorem byFirst (X : Msg → sProp 𝕄) : bigSep Finset.univ X
    = iprop((four fun d s => X (d, 0, s)) ∗ bigSep (Finset.univ : Finset (Fin 15)) fun i => four fun d s => X (d, i.succ, s)) := by
  rw [bigSep_univ_eq_bigSepL (fours 0 ++ hops.flatMap fun i => fours i.succ) (by decide +kernel) (by decide +kernel) X,
    bigSepL_append, bigSepL_flatMap, ← hops_univ]
  rfl

theorem byLast (X : Msg → sProp 𝕄) : bigSep Finset.univ X
    = iprop((bigSep (Finset.univ : Finset (Fin 15)) fun i => four fun d s => X (d, i.castSucc, s)) ∗ four fun d s => X (d, 15, s)) := by
  rw [bigSep_univ_eq_bigSepL ((hops.flatMap fun i => fours i.castSucc) ++ fours 15) (by decide +kernel) (by decide +kernel) X,
    bigSepL_append, bigSepL_flatMap, ← hops_univ]
  rfl

theorem byDeparture (X : Msg → sProp 𝕄) : bigSep Finset.univ X
    = iprop(bigSepL (departures false) X ∗ bigSepL (departures true) X ∗ X (false, 15, 1) ∗ X (true, 15, 0)) := by
  rw [bigSep_univ_eq_bigSepL (departures false ++ (departures true ++ [(false, 15, 1), (true, 15, 0)]))
      (by decide +kernel) (by decide +kernel) X,
    bigSepL_append, bigSepL_append]
  rfl

theorem departures_used (d : Bool) : ∀ m ∈ departures d, used m = true := by revert d; decide +kernel

theorem byDirection (X : Msg → sProp 𝕄) : bigSep Finset.univ X
    = iprop((bigSep (Finset.univ : Finset (Fin 16 × Fin 2)) fun p => X (false, p))
        ∗ bigSep (Finset.univ : Finset (Fin 16 × Fin 2)) fun p => X (true, p)) := by
  rw [bigSep_univ_prod]
  exact bigSep_univ_eq_bigSepL [false, true] (by decide) (by decide) _

theorem four_sep (Φ Ψ : Bool → Fin 2 → sProp 𝕄) :
    (four fun d s => iprop(Φ d s ∗ Ψ d s)) = iprop(four Φ ∗ four Ψ) := by
  have h₁ : iprop((Φ false 0 ∗ Ψ false 0) ∗ (Φ true 0 ∗ Ψ true 0) ∗ (Φ false 1 ∗ Ψ false 1) ∗ (Φ true 1 ∗ Ψ true 1))
      ⊢ iprop((Φ false 0 ∗ Φ true 0 ∗ Φ false 1 ∗ Φ true 1) ∗ Ψ false 0 ∗ Ψ true 0 ∗ Ψ false 1 ∗ Ψ true 1) := by
    iintro ⟨⟨A, B⟩, ⟨C, D⟩, ⟨E, G⟩, H, J⟩
    isplitl [A C E H]
    · isplitl [A]; · iexact A
      isplitl [C]; · iexact C
      isplitl [E] <;> iassumption
    isplitl [B]; · iexact B
    isplitl [D]; · iexact D
    isplitl [G] <;> iassumption
  have h₂ : iprop((Φ false 0 ∗ Φ true 0 ∗ Φ false 1 ∗ Φ true 1) ∗ Ψ false 0 ∗ Ψ true 0 ∗ Ψ false 1 ∗ Ψ true 1)
      ⊢ iprop((Φ false 0 ∗ Ψ false 0) ∗ (Φ true 0 ∗ Ψ true 0) ∗ (Φ false 1 ∗ Ψ false 1) ∗ (Φ true 1 ∗ Ψ true 1)) := by
    iintro ⟨⟨A, C, E, H⟩, B, D, G, J⟩
    isplitl [A B]; · isplitl [A] <;> iassumption
    isplitl [C D]; · isplitl [C] <;> iassumption
    isplitl [E G]; · isplitl [E] <;> iassumption
    isplitl [H] <;> iassumption
  exact Entails.antisymm h₁ h₂

/-! ## Slots -/

theorem bySlot (Φ : Fin 32 → sProp 𝕄) : bigSep Finset.univ Φ
    = iprop(Φ 0 ∗ Φ 16 ∗ (bigSep (Finset.univ : Finset (Fin 15)) fun i => Φ (dst false i.castSucc))
        ∗ bigSep (Finset.univ : Finset (Fin 15)) fun i => Φ (dst true i.castSucc)) := by
  rw [bigSep_univ_eq_bigSepL ([0] ++ ([16] ++ (hops.map (fun i => dst false i.castSucc) ++ hops.map (fun i => dst true i.castSucc))))
      (by decide +kernel) (by decide +kernel) Φ,
    bigSepL_append, bigSepL_append, bigSepL_append, bigSepL_map, bigSepL_map, hops_univ, hops_univ]
  rfl

variable (xs : Dev nD → Vec F S128x4096 .fp8e5m2) (c : Dev nD)

/-- The rows of the result, slot by slot. -/
theorem rows_all (f : cc0_stg6_0.ty.Contents (Elt F)) : bufPts c cc0_stg6_0 f
    = bigSep (Finset.univ : Finset (Fin 32)) fun sl => (((OM).view.loc (c : Thread nD τ) ↦[rowSet (orig c sl)]{fullShare} f) : sProp 𝕄) := by
  have h := pointsTo_biUnion (ℓ := (OM).view.loc (c : Thread nD τ)) (q := fullShare) (f := f) (Val := Elt F) (Ix := Unit)
    (Name := ℕ) (U := UU) (Lvl := ℕ) Finset.univ rowSet fun o _ o' _ => rows_disjoint o o'
  refine (congrArg (fun S => (((OM).view.loc (c : Thread nD τ) ↦[S]{fullShare} f) : sProp 𝕄)) rows_cover).symm.trans ?_
  refine h.trans ?_
  exact bigSep_univ_equiv (Equiv.ofBijective (orig c) (orig_bijective c)) _

theorem rows_in (f : cc0_stg6_0.ty.Contents (Elt F)) : bufPts c cc0_stg6_0 f
    ⊢ iprop(rowsAny c c ∗ rowsAny c (orig c 16)
        ∗ (bigSep (Finset.univ : Finset (Fin 15)) fun i => rowsAny c (orig c (dst false i.castSucc)))
        ∗ bigSep (Finset.univ : Finset (Fin 15)) fun i => rowsAny c (orig c (dst true i.castSucc))) := by
  rw [rows_all]
  have h : (bigSep (Finset.univ : Finset (Fin 32)) fun sl => (((OM).view.loc (c : Thread nD τ) ↦[rowSet (orig c sl)]{fullShare} f) : sProp 𝕄))
      ⊢ bigSep (Finset.univ : Finset (Fin 32)) fun sl => rowsAny (F := F) c (orig c sl) :=
    bigSep_mono fun sl _ => exists_intro (Φ := fun f => (((OM).view.loc (c : Thread nD τ) ↦[rowSet (orig c sl)]{fullShare} f) : sProp 𝕄)) f
  rw [bySlot fun sl => rowsAny (F := F) c (orig c sl), orig_zero] at h
  exact h

theorem rows_out (sc : F .f32) (w : FVec F S4096x256 .bf16) :
    iprop(rowsDone xs c sc w c ∗ rowsDone xs c sc w (orig c 16)
        ∗ (bigSep (Finset.univ : Finset (Fin 15)) fun i => rowsDone xs c sc w (orig c (dst false i.castSucc)))
        ∗ bigSep (Finset.univ : Finset (Fin 15)) fun i => rowsDone xs c sc w (orig c (dst true i.castSucc)))
      = bufPts c cc0_stg6_0 (result xs sc w) := by
  rw [rows_all, bySlot, orig_zero]
  rfl

/-! ## The gathering buffer -/

/-- The half a message writes, if the kernel sends the message. -/
def msgSet (m : Msg) : Finset S32x128x4096.Idx := if used m then halfSet (dst m.1 m.2.1) m.2.2 else ∅

theorem mem_msgSet {m : Msg} {i : S32x128x4096.Idx} :
    i ∈ msgSet m ↔ used m = true ∧ (i 0).val = (dst m.1 m.2.1).val ∧ (i 1).val / 64 = m.2.2.val := by
  unfold msgSet
  split
  · next h => rw [mem_halfSet]; exact ⟨fun x => ⟨h, x⟩, fun x => x.2⟩
  · next h => exact ⟨fun x => absurd x (Finset.notMem_empty _), fun x => absurd x.1 h⟩

theorem dst_inj : ∀ m m' : Msg, used m = true ∧ used m' = true ∧ dst m.1 m.2.1 = dst m'.1 m'.2.1
    ∧ m.2.2 = m'.2.2 → m = m' := by decide +kernel

theorem dst_surj : ∀ (sl : Fin 32) (s : Fin 2), sl ≠ 0 → ∃ m : Msg, used m = true ∧ sl.val = (dst m.1 m.2.1).val ∧ s.val = m.2.2.val := by
  decide +kernel

theorem msgs_disjoint (m m' : Msg) (h : m ≠ m') : Disjoint (msgSet m) (msgSet m') := by
  rw [Finset.disjoint_left]
  intro i h0 h1
  rw [mem_msgSet] at h0 h1
  exact h (dst_inj m m' ⟨h0.1, h1.1, Fin.ext (h0.2.1.symm.trans h1.2.1), Fin.ext (h0.2.2.symm.trans h1.2.2)⟩)

theorem zero_disjoint : Disjoint (slotSet 0) (Finset.univ.biUnion msgSet) := by
  rw [Finset.disjoint_left]
  intro i h0 h1
  obtain ⟨m, -, hm⟩ := Finset.mem_biUnion.mp h1
  rw [mem_slotSet] at h0
  rw [mem_msgSet] at hm
  exact dst_ne_zero m.1 m.2.1 (Fin.ext (hm.2.1.symm.trans h0))

theorem msgs_cover : slotSet 0 ∪ Finset.univ.biUnion msgSet = (Finset.univ : Finset S32x128x4096.Idx) := by
  ext i
  simp only [Finset.mem_union, Finset.mem_biUnion, Finset.mem_univ, true_and, iff_true]
  have h1 : (i 1).val < 128 := (i 1).isLt
  by_cases h : (i 0) = (0 : Fin 32)
  · exact .inl (mem_slotSet.mpr (congrArg Fin.val h))
  · obtain ⟨m, hu, h0, hs⟩ := dst_surj (i 0) ⟨(i 1).val / 64, by omega⟩ h
    exact .inr ⟨m, mem_msgSet.mpr ⟨hu, h0, hs⟩⟩

/-- The gathering buffer is slot 0 and the halves the messages write. -/
theorem comm_split (f : cc0_scratch0.ty.Contents (Elt F)) : bufPts c cc0_scratch0 f
    = iprop(((CM).view.loc (c : Thread nD τ) ↦[slotSet 0]{fullShare} f)
        ∗ bigSep (Finset.univ : Finset Msg) fun m => (((CM).view.loc (c : Thread nD τ) ↦[msgSet m]{fullShare} f) : sProp 𝕄)) := by
  have h := pointsTo_union (ℓ := (CM).view.loc (c : Thread nD τ)) (q := fullShare) (f := f) (Val := Elt F) (Ix := Unit)
    (Name := ℕ) (U := UU) (Lvl := ℕ) zero_disjoint
  have h' := pointsTo_biUnion (ℓ := (CM).view.loc (c : Thread nD τ)) (q := fullShare) (f := f) (Val := Elt F) (Ix := Unit)
    (Name := ℕ) (U := UU) (Lvl := ℕ) Finset.univ msgSet fun m _ m' _ => msgs_disjoint m m'
  exact (congrArg (fun S => (((CM).view.loc (c : Thread nD τ) ↦[S]{fullShare} f) : sProp 𝕄)) msgs_cover).symm.trans
    ((Entails.antisymm h.1 h.2).trans (congrArg (fun X => iprop(_ ∗ X)) h'))

theorem msg_pts (m : Msg) (f : cc0_scratch0.ty.Contents (Elt F)) :
    (((CM).view.loc (c : Thread nD τ) ↦[msgSet m]{fullShare} f) : sProp 𝕄)
      = opt (used m) (halfPts c (dst m.1 m.2.1) m.2.2 fullShare f) := by
  unfold msgSet opt
  by_cases h : used m = true
  · rw [if_pos h, if_pos h]; unfold halfPts; rw [half_set]; rfl
  · rw [if_neg h, if_neg h]; exact pointsTo_empty

theorem opt_mono {b : Bool} {X Y : sProp 𝕄} (h : X ⊢ Y) : opt b X ⊢ opt b Y := by
  unfold opt; split
  · exact h
  · exact Entails.refl _

/-- Before the run: slot 0, and the leave to write every half the neighbours write. -/
theorem comm_in (f : cc0_scratch0.ty.Contents (Elt F)) : bufPts c cc0_scratch0 f
    ⊢ iprop(((CM).view.loc (c : Thread nD τ) ↦[slotSet 0]{fullShare} f)
        ∗ bigSep (Finset.univ : Finset Msg) fun m => opt (used m) (anyHalf c m)) := by
  rw [comm_split]
  refine sep_mono_right (bigSep_mono fun m _ => ?_)
  rw [msg_pts]
  exact opt_mono (exists_intro (Φ := fun f => halfPts (F := F) c (dst m.1 m.2.1) m.2.2 fullShare f) f)

/-- After the run: all of it at what has arrived. -/
theorem comm_out : iprop((got xs c 0 0 fullShare ∗ got xs c 0 1 fullShare)
      ∗ bigSep (Finset.univ : Finset Msg) fun m => opt (used m) (recvPay xs c m))
    = bufPts c cc0_scratch0 (full xs c) :=
  (congrArg₂ (fun X Y => iprop(X ∗ Y)) (got_slot xs c 0 fullShare)
    (bigSep_congr fun m _ => (msg_pts c m (full xs c)).symm)).trans (comm_split c (full xs c)).symm

end Cert.KernelIdeal.Body

end

end
-- ==== Proof.Gather.lean ====
/- What the run takes, put in the order of its steps, and what it leaves, put together again. -/
module

public import proofs.«01_k».proof.Proof.Parts

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S128x4096 .fp8e5m2) (c : Dev nD)

theorem opt_true {b : Bool} (h : b = true) (X : sProp 𝕄) : opt b X = X := if_pos h
theorem opt_false {b : Bool} (h : b = false) (X : sProp 𝕄) : opt b X = iprop(emp) := if_neg (by rw [h]; decide)

theorem sep_all {I : Type} (s : Finset I) (Φ Ψ : I → sProp 𝕄) :
    (bigSep s fun i => iprop(Φ i ∗ Ψ i)) = iprop(bigSep s Φ ∗ bigSep s Ψ) := BI.bigSep_sep s Φ Ψ

/-- Message `m` is awaited if it comes at all. -/
def AwaitAny (m : Msg) : sProp 𝕄 :=
  iprop(opt (used m) (cred (tallyAt (recvCell c m) () N)) ∗ atPos ER (recvCell c m) 0 ∅ 0)

theorem await_used (m : Msg) (hu : used m = true) : AwaitAny (F := F) c m = Await c m := by
  unfold AwaitAny Await; rw [opt_true hu]

/-- The four messages of every hop. -/
def fifteen (Φ : Fin 15 → Bool → Fin 2 → sProp 𝕄) : sProp 𝕄 :=
  bigSep (Finset.univ : Finset (Fin 15)) fun i => four (Φ i)

theorem fifteen_sep (Φ Ψ : Fin 15 → Bool → Fin 2 → sProp 𝕄) :
    (fifteen fun i d s => iprop(Φ i d s ∗ Ψ i d s)) = iprop(fifteen Φ ∗ fifteen Ψ) := by
  exact (bigSep_congr fun i _ => four_sep (Φ i) (Ψ i)).trans (sep_all _ (fun i => four (Φ i)) fun i => four (Ψ i))

theorem fifteen_congr {Φ Ψ : Fin 15 → Bool → Fin 2 → sProp 𝕄} (h : ∀ i d s, Φ i d s = Ψ i d s) : fifteen Φ = fifteen Ψ := by
  rw [show Φ = Ψ from funext fun i => funext fun d => funext fun s => h i d s]

/-- The rows of the blocks one direction brings. -/
def rowsIn (d : Bool) : sProp 𝕄 := bigSep (Finset.univ : Finset (Fin 15)) fun i => rowsAny c (orig c (dst d i.castSucc))
def rowsOut (sc : F .f32) (w : FVec F S4096x256 .bf16) (d : Bool) : sProp 𝕄 :=
  bigSep (Finset.univ : Finset (Fin 15)) fun i => rowsDone xs c sc w (orig c (dst d i.castSucc))

theorem hops_in : iprop((fifteen fun i d s => Await c (d, i.castSucc, s)) ∗ (fifteen fun i d s => Ready c (d, i.succ, s))
      ∗ rowsIn c false ∗ rowsIn c true) ⊢ bigSepL hops (HopIn (F := F) c) := by
  have e : bigSepL hops (HopIn (F := F) c)
      = iprop((fifteen fun i d s => Arriving c i d s) ∗ rowsIn c false ∗ rowsIn c true) := by
    rw [hops_univ]
    unfold HopIn rowsIn fifteen
    rw [sep_all, sep_all]
  rw [e]
  unfold Arriving
  rw [fifteen_sep]
  iintro ⟨A, B, C, D⟩
  isplitl [A B]; · isplitl [A] <;> iassumption
  isplitl [C] <;> iassumption

theorem hops_out (sc : F .f32) (w : FVec F S4096x256 .bf16) : bigSepL hops (HopOut xs c sc w)
    ⊢ iprop((fifteen fun i d s => got xs c (dst d i.castSucc) s fullShare.right)
      ∗ (fifteen fun i d s => atPos ER (recvCell c (d, i.castSucc, s)) 1 ∅ 0)
      ∗ (fifteen fun i d s => Out xs c (d, i.succ, s)) ∗ rowsOut xs c sc w false ∗ rowsOut xs c sc w true) := by
  have e : bigSepL hops (HopOut xs c sc w)
      = iprop((fifteen fun i d s => Arrived xs c i d s) ∗ rowsOut xs c sc w false ∗ rowsOut xs c sc w true) := by
    rw [hops_univ]
    unfold HopOut rowsOut fifteen
    rw [sep_all, sep_all]
  rw [e]
  unfold Arrived
  rw [fifteen_sep, fifteen_sep]
  iintro ⟨⟨A, B, C⟩, D, E⟩
  isplitl [A]; · iexact A
  isplitl [B]; · iexact B
  isplitl [C]; · iexact C
  isplitl [D] <;> iassumption

theorem sendPay_right (s : Fin 2) : sendPay xs c (false, 0, s) = got xs c 0 s fullShare.left := rfl
theorem sendPay_left (s : Fin 2) : sendPay xs c (true, 0, s) = got xs c 0 s fullShare.right.left := rfl

/-- A half of the own block: the shares the two copies take along, and the share that stays. -/
theorem own_split (s : Fin 2) : got xs c 0 s fullShare
    = iprop(sendPay xs c (false, 0, s) ∗ sendPay xs c (true, 0, s) ∗ got xs c 0 s fullShare.right.right) := by
  rw [sendPay_right, sendPay_left, got_split xs c 0 s fullShare, got_split xs c 0 s fullShare.right]

/-- A position after the run: past the one round if the message was sent. -/
def past (m : Msg) : ℕ := if used m then 1 else 0
theorem past_used {m : Msg} (h : used m = true) : past m = 1 := if_pos h
theorem past_not {m : Msg} (h : used m = false) : past m = 0 := if_neg (by rw [h]; decide)

theorem back_all : bigSep (Finset.univ : Finset Msg) (Back xs c)
    = iprop(((four fun d s => sendPay xs c (d, 0, s)) ∗ fifteen fun i d s => got xs c (dst d i.castSucc) s fullShare.left)
        ∗ bigSep (Finset.univ : Finset Msg) fun m => atPos ER (sendCell c m) (past m) ∅ 0) := by
  have e₁ : (fifteen fun i d s => sendPay xs c (d, i.succ, s))
      = fifteen fun i d s => got xs c (dst d i.castSucc) s fullShare.left :=
    fifteen_congr fun i d s => sendPay_succ xs c d i s
  have e₂ : bigSep (Finset.univ : Finset Msg) (sendPay xs c)
      = iprop((four fun d s => sendPay xs c (d, 0, s)) ∗ fifteen fun i d s => sendPay xs c (d, i.succ, s)) :=
    byFirst (sendPay xs c)
  have e₃ : bigSep (Finset.univ : Finset Msg) (Back xs c)
      = iprop(bigSep (Finset.univ : Finset Msg) (sendPay xs c)
        ∗ bigSep (Finset.univ : Finset Msg) fun m => atPos ER (sendCell c m) (past m) ∅ 0) :=
    sep_all _ (sendPay xs c) fun m => atPos ER (sendCell c m) (past m) ∅ 0
  rw [e₃, e₂, e₁]

theorem recv_all : (bigSep (Finset.univ : Finset Msg) fun m => opt (used m) (recvPay xs c m))
    = iprop(((fifteen fun i d s => got xs c (dst d i.castSucc) s fullShare.left)
        ∗ fifteen fun i d s => got xs c (dst d i.castSucc) s fullShare.right)
      ∗ recvPay xs c (false, 15, 0) ∗ emp ∗ emp ∗ recvPay xs c (true, 15, 1)) := by
  have e₁ : (fifteen fun i d s => opt (used (d, i.castSucc, s)) (recvPay xs c (d, i.castSucc, s)))
      = iprop((fifteen fun i d s => got xs c (dst d i.castSucc) s fullShare.left)
          ∗ fifteen fun i d s => got xs c (dst d i.castSucc) s fullShare.right) := by
    refine Eq.trans (fifteen_congr fun i d s => ?_) (fifteen_sep _ _)
    exact (opt_true (used_hop d i s) _).trans ((recvPay_eq xs c _).trans (got_split xs c _ _ _))
  have e₂ : (bigSep (Finset.univ : Finset Msg) fun m => opt (used m) (recvPay xs c m))
      = iprop((fifteen fun i d s => opt (used (d, i.castSucc, s)) (recvPay xs c (d, i.castSucc, s)))
        ∗ four fun d s => opt (used (d, 15, s)) (recvPay xs c (d, 15, s))) :=
    byLast fun m => opt (used m) (recvPay xs c m)
  have e₃ : (four fun d s => opt (used (d, 15, s)) (recvPay xs c (d, 15, s)))
      = iprop(recvPay xs c (false, 15, 0) ∗ emp ∗ emp ∗ recvPay xs c (true, 15, 1)) := by
    unfold four; dsimp only
    rw [opt_true (b := used (false, 15, 0)) rfl, opt_false (b := used (true, 15, 0)) rfl,
      opt_false (b := used (false, 15, 1)) rfl, opt_true (b := used (true, 15, 1)) rfl]
  rw [e₂, e₁, e₃]

theorem past_all : (bigSep (Finset.univ : Finset Msg) fun m => (atPos ER (recvCell c m) (past m) ∅ 0 : sProp 𝕄))
    = iprop((fifteen fun i d s => atPos ER (recvCell c (d, i.castSucc, s)) 1 ∅ 0)
      ∗ atPos ER (recvCell c (false, 15, 0)) 1 ∅ 0 ∗ atPos ER (recvCell c (true, 15, 0)) 0 ∅ 0
      ∗ atPos ER (recvCell c (false, 15, 1)) 0 ∅ 0 ∗ atPos ER (recvCell c (true, 15, 1)) 1 ∅ 0) := by
  have e₁ : (fifteen fun i d s => (atPos ER (recvCell c (d, i.castSucc, s)) (past (d, i.castSucc, s)) ∅ 0 : sProp 𝕄))
      = fifteen fun i d s => atPos ER (recvCell c (d, i.castSucc, s)) 1 ∅ 0 :=
    fifteen_congr fun i d s => by rw [past_used (used_hop d i s)]
  have e₂ : (bigSep (Finset.univ : Finset Msg) fun m => (atPos ER (recvCell c m) (past m) ∅ 0 : sProp 𝕄))
      = iprop((fifteen fun i d s => atPos ER (recvCell c (d, i.castSucc, s)) (past (d, i.castSucc, s)) ∅ 0)
        ∗ four fun d s => atPos ER (recvCell c (d, 15, s)) (past (d, 15, s)) ∅ 0) :=
    byLast fun m => (atPos ER (recvCell c m) (past m) ∅ 0 : sProp 𝕄)
  rw [e₂, e₁]
  rfl

/-- What the departures leave, with the shares kept: every half that arrived, the own block, and all positions. -/
theorem gather_out :
    iprop((bigSep (Finset.univ : Finset Msg) (Back xs c))
      ∗ (fifteen fun i d s => got xs c (dst d i.castSucc) s fullShare.right)
      ∗ (fifteen fun i d s => atPos ER (recvCell c (d, i.castSucc, s)) 1 ∅ 0)
      ∗ (got xs c 0 0 fullShare.right.right ∗ got xs c 0 1 fullShare.right.right)
      ∗ (recvPay xs c (false, 15, 0) ∗ recvPay xs c (true, 15, 1))
      ∗ atPos ER (recvCell c (false, 15, 0)) 1 ∅ 0 ∗ atPos ER (recvCell c (true, 15, 0)) 0 ∅ 0
      ∗ atPos ER (recvCell c (false, 15, 1)) 0 ∅ 0 ∗ atPos ER (recvCell c (true, 15, 1)) 1 ∅ 0)
    ⊢ iprop(bufPts c cc0_scratch0 (full xs c)
      ∗ (bigSep (Finset.univ : Finset Msg) fun m => atPos ER (sendCell c m) (past m) ∅ 0)
      ∗ bigSep (Finset.univ : Finset Msg) fun m => atPos ER (recvCell c m) (past m) ∅ 0) := by
  rw [back_all, ← comm_out, own_split, own_split, past_all, recv_all]
  unfold four
  iintro ⟨⟨⟨⟨A, B, C, D⟩, E⟩, Hp⟩, G, H, ⟨I, J⟩, ⟨U, V⟩, P, Q, R, T⟩
  isplitl [A B C D E G I J U V]
  · isplitl [A B C D I J]
    · isplitl [A B I]
      · isplitl [A]; · iexact A
        isplitl [B] <;> iassumption
      · isplitl [C]; · iexact C
        isplitl [D] <;> iassumption
    isplitl [E G]
    · isplitl [E] <;> iassumption
    isplitl [U]; · iexact U
    isplitr; · iempintro
    isplitr; · iempintro
    iexact V
  isplitl [Hp]; · iexact Hp
  isplitl [H]; · iexact H
  isplitl [P]; · iexact P
  isplitl [Q]; · iexact Q
  isplitl [R] <;> iassumption

end Cert.KernelIdeal.Body

end

end
-- ==== Proof.Run.lean ====
/- The body run once, at any device: the handshake, the own block and its copies, the hops, the departures. -/
module

public import proofs.«01_k».proof.Proof.Gather

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S128x4096 .fp8e5m2) (K : GSem nD τ sig → ℕ) (c : Dev nD)

/-- A lasting fact serves every member of a family. -/
theorem all_with {I : Type} [DecidableEq I] {R : sProp 𝕄} [BI.Persistent R] {Φ Ψ : I → sProp 𝕄}
    (h : ∀ i, iprop(R ∗ Φ i) ⊢ Ψ i) (s : Finset I) : iprop(R ∗ bigSep s Φ) ⊢ bigSep s Ψ := by
  induction s using Finset.induction_on with
  | empty => rw [BI.bigSep_empty, BI.bigSep_empty]; iintro ⟨-, H⟩; iempintro
  | insert a s ha ih =>
    have e : ∀ X : I → sProp 𝕄, bigSep (insert a s) X = iprop(X a ∗ bigSep s X) := fun X => BI.bigSep_insert ha
    rw [e, e]
    iintro ⟨#HR, Ha, Hs⟩
    isplitl [Ha]
    · iapply (h a)
      isplitr; · iexact HR
      iexact Ha
    · iapply ih
      isplitr; · iexact HR
      iexact Hs

/-! ## The handshake -/

/-- What device `c` hands each neighbour with its unit: its own halves of one direction. -/
theorem pay_own (d : Bool) : (bigSep (Finset.univ : Finset (Fin 16 × Fin 2)) fun p => opt (used (d, p)) (target c (d, p)))
    = barPay (F := F) (nb (!d) c) d := by
  unfold barPay; rw [nb_nb]

/-- The own halves, with the arrival cells' first round reached, by direction. -/
theorem own_halves : iprop(known xs K c ∗ bigSep (Finset.univ : Finset Msg) fun m => opt (used m) (anyHalf c m))
    ⊢ iprop(barPay (F := F) (nb true c) false ∗ barPay (F := F) (nb false c) true) := by
  have e : iprop(barPay (F := F) (nb true c) false ∗ barPay (F := F) (nb false c) true)
      = bigSep (Finset.univ : Finset Msg) fun m => opt (used m) (target c m) := by
    rw [byDirection fun m => opt (used m) (target (F := F) c m)]
    exact (congrArg₂ (fun X Y => iprop(X ∗ Y)) (pay_own c false) (pay_own c true)).symm
  rw [e]
  refine all_with (fun m => ?_) _
  unfold opt target
  split
  · iintro ⟨#Hk, H⟩
    isplitl; · iexact H
    ihave #Hr := (known_reached xs K c m) $$ Hk
    icases Hr with ⟨-, #Hr⟩
    iexact Hr
  · iintro ⟨-, H⟩; iexact H

/-- The neighbours' halves, message by message. -/
theorem their_halves : iprop(barPay (F := F) c false ∗ barPay (F := F) c true)
    = bigSep (Finset.univ : Finset Msg) fun m => opt (used m) (target (nb m.1 c) m) :=
  (byDirection fun m => opt (used m) (target (F := F) (nb m.1 c) m)).symm

/-- Both neighbours are greeted and both greetings awaited. -/
def greet (k : P F) : P F :=
  .op (.semSignal (nbs c true, .tc) (SemArray.scalar (sig.barrier 0 rfl) : Sems sig S_).sem (1#32 : BitVec 32).toInt) fun _ =>
  .op (.semSignal (nbs c false, .tc) (SemArray.scalar (sig.barrier 0 rfl) : Sems sig S_).sem (1#32 : BitVec 32).toInt) fun _ =>
  .op (.semWait (SemArray.scalar (sig.barrier 0 rfl) : Sems sig S_).sem (2#32 : BitVec 32).toInt) fun _ => k

/-- What the handshake takes beside the halves. -/
def Greeting : sProp 𝕄 :=
  iprop(reached ER (barCell (nb true c)) 0 ∗ reached ER (barCell (nb false c)) 0
    ∗ dutyTok ER (barCell (nb true c)) 0 false ∗ dutyTok ER (barCell (nb false c)) 0 true
    ∗ cred (tallyAt (barCell c) () 2) ∗ atPos ER (barCell c) 0 ∅ 0)

theorem greet_step (k : P F) (Kt : PUnit → sProp 𝕄) :
    iprop(known xs K c ∗ Greeting c ∗ (bigSep (Finset.univ : Finset Msg) fun m => opt (used m) (anyHalf c m)) ∗ owesW c (O₀ c))
      ⊢ iprop((((bigSep (Finset.univ : Finset Msg) fun m => opt (used m) (target (nb m.1 c) m)) ∗ atPos ER (barCell c) 1 ∅ 0
          ∗ owesW c (owedAll c)) -∗ wp frame (wpE (defs₀ (F := F)) 𝒱₀ (c : Thread nD τ) none) Set.univ k Kt) -∗ wp frame (wpE (defs₀ (F := F)) 𝒱₀ (c : Thread nD τ) none) Set.univ (greet c k) Kt) := by
  have hw : known xs K c ⊢ MayWait (c : Thread nD τ) (.reg barSem) () (owedAll c) :=
    BI.Entails.trans (known_lev xs K c) (mayWait (F := F) c (.reg barSem) (above_all c))
  have hi : known xs K c ⊢ invs xs K c := by unfold known; iintro ⟨H, -, -⟩; iexact H
  unfold Greeting owesW greet
  iintro ⟨#Hk, ⟨#Hr1, #Hr0, Ht1, Ht0, Hcr, Hat⟩, Hh, ⟨%W, HO⟩⟩ Hc
  ihave #Hi := hi $$ Hk
  unfold invs
  icases Hi with ⟨#Hi, ⟨#Hi0, #Hi1⟩, -⟩
  ihave Hh := (own_halves xs K c) $$ [Hh]
  · isplitr; · iexact Hk
    iexact Hh
  icases Hh with ⟨Hh1, Hh0⟩
  iapply (Rounds.wp_signal 𝒱₀ ER (rd xs) (c : Thread nD τ) none (dst := (nb true c : Thread nD τ)) (sem := barSem) (r := 0)
      (d := false) (κ := K (barCell (nb true c))) (by rw [duties_bar]; exact Finset.mem_univ _) (amount_bar xs (nb true c) 0 false)
      () (O₀ := O₀ c) (owedAll c + tallyAt (barCell (nb false c)) () 1) rfl (W := W)) $$ [HO Ht1 Hh1]
  · isplitr; · iexact Hi1
    isplitl [HO]; · iexact HO
    isplitl [Ht1]; · iexact Ht1
    isplitl [Hh1]; · rw [payload_bar]; iexact Hh1
    iexact Hr1
  iintro HO
  iapply (Rounds.wp_signal 𝒱₀ ER (rd xs) (c : Thread nD τ) none (dst := (nb false c : Thread nD τ)) (sem := barSem) (r := 0)
      (d := true) (κ := K (barCell (nb false c))) (by rw [duties_bar]; exact Finset.mem_univ _) (amount_bar xs (nb false c) 0 true)
      () (O₀ := owedAll c + tallyAt (barCell (nb false c)) () 1) (owedAll c) rfl (W := W)) $$ [HO Ht0 Hh0]
  · isplitr; · iexact Hi0
    isplitl [HO]; · iexact HO
    isplitl [Ht0]; · iexact Ht0
    isplitl [Hh0]; · rw [payload_bar]; iexact Hh0
    iexact Hr0
  iintro HO
  iapply (Rounds.wp_wait_rest_token 𝒱₀ ER (rd xs) (c : Thread nD τ) none (κ := K (barCell c))
      (wpE_semWait_eq 𝒱₀ (c : Thread nD τ) none Set.univ) (Set.mem_univ _) () (O := owedAll c) (W := W) (R := 0) (m := 0) (T := ∅)
      ((Nat.zero_add _).trans (expect_bar xs c).symm)) $$ [Hcr HO Hat]
  · isplitr; · iexact Hi
    isplitl [Hcr]; · iexact Hcr
    isplitl [HO]; · iexact HO
    isplitr; · iapply hw; iexact Hk
    iexact Hat
  iintro ⟨HO, Hat, -, Hpay⟩
  ihave Hp := (Entails.of_eq ((rest_bar xs c).trans (their_halves c))) $$ Hpay
  iapply Hc
  isplitl [Hp]; · iexact Hp
  isplitl [Hat]; · iexact Hat
  iexists _; iexact HO

/-! ## The own block -/

/-- The own block is put into slot 0. -/
def putOwn (k : P F) : P F :=
  .op (.load (Memref.whole cc0_stg0_0 : Memref sig .tc .vmem S128x4096 .fp8e5m2)
    (Rect.unit (s := S128x4096) ![0, 0] S128x4096.size inb_S128x4096_S128x4096_0_0).toLoadRect
    (View.loadsAt_vmem h_S128x4096)) fun x =>
  loadSlot CM 0 fun _ =>
  .op (.store CM (Rect.unit (s := S32x128x4096) ![0, 0, 0] S1x128x4096.size inb_S32x128x4096_S1x128x4096_0_0_0)
    (k0_pay1 x) Finset.univ (View.stores_vmem h_S1x128x4096
      (CM_whole.storeExact_slice rfl _ packedfp8e5m2_S32x128x4096_S1x128x4096_0_0_0) (fun _ => rfl)) (.inl rfl)) fun _ => k

theorem zero_set : (CM.access (Rect.unit (s := S32x128x4096) ![0, 0, 0] S1x128x4096.size
    inb_S32x128x4096_S1x128x4096_0_0_0)).set = slotSet 0 := slot_set 0

theorem whole_read_x (X : cc0_stg0_0.ty.Contents (Elt F)) :
    ((Memref.whole cc0_stg0_0 : Memref sig .tc .vmem S128x4096 .fp8e5m2).access
      (Rect.unit (s := S128x4096) ![0, 0] S128x4096.size inb_S128x4096_S128x4096_0_0)).read (Elt F) X = X := by
  funext i
  refine congrArg X (funext fun a => Fin.ext ?_)
  match a with
  | 0 => show 0 + 1 * (i 0).val = (i 0).val; omega
  | 1 => show 0 + 1 * (i 1).val = (i 1).val; omega

theorem whole_read_w (X : cc0_stg1_0.ty.Contents (Elt F)) :
    ((Memref.whole cc0_stg1_0 : Memref sig .tc .vmem S4096x256 .fp8e5m2).access
      (Rect.unit (s := S4096x256) ![0, 0] S4096x256.size inb_S4096x256_S4096x256_0_0)).read (Elt F) X = X := by
  funext i
  refine congrArg X (funext fun a => Fin.ext ?_)
  match a with
  | 0 => show 0 + 1 * (i 0).val = (i 0).val; omega
  | 1 => show 0 + 1 * (i 1).val = (i 1).val; omega

theorem putOwn_step (f : cc0_scratch0.ty.Contents (Elt F)) (k : P F) (Kt : PUnit → sProp 𝕄) :
    iprop(bufPts c cc0_stg0_0 (xs c) ∗ ((CM).view.loc (c : Thread nD τ) ↦[slotSet 0]{fullShare} f))
      ⊢ iprop(((bufPts c cc0_stg0_0 (xs c) ∗ got xs c 0 0 fullShare ∗ got xs c 0 1 fullShare) -∗ wp frame (wpE (defs₀ (F := F)) 𝒱₀ (c : Thread nD τ) none) Set.univ k Kt)
        -∗ wp frame (wpE (defs₀ (F := F)) 𝒱₀ (c : Thread nD τ) none) Set.univ (putOwn k) Kt) := by
  unfold putOwn loadSlot
  iintro ⟨Hx, H⟩ Hc
  iapply (wp_load_rect 𝒱₀ (c : Thread nD τ) none Set.univ (m := (Memref.whole cc0_stg0_0 : Memref sig .tc .vmem S128x4096 .fp8e5m2))
    (r := Rect.unit (s := S128x4096) ![0, 0] S128x4096.size inb_S128x4096_S128x4096_0_0) (S := Finset.univ) (q := fullShare)
    (f := xs c) (Finset.subset_univ _)) $$ Hx
  rw [whole_read_x]
  iintro Hx
  iapply (wp_load_rect 𝒱₀ (c : Thread nD τ) none Set.univ (m := CM)
    (r := Rect.unit (s := S32x128x4096) ![0, 0, 0] S1x128x4096.size (slot_inb 0)) (S := slotSet 0) (q := fullShare) (f := f)
    (Finset.subset_of_eq (slot_set 0))) $$ H
  iintro H
  iapply (wp_store 𝒱₀ (c : Thread nD τ) none Set.univ (m := CM)
    (r := Rect.unit (s := S32x128x4096) ![0, 0, 0] S1x128x4096.size inb_S32x128x4096_S1x128x4096_0_0_0) (S := slotSet 0) (f := f)
    ((View.setOn_subset_set _ _).trans (Finset.subset_of_eq zero_set))) $$ H
  iintro H
  iapply Hc
  isplitl [Hx]; · iexact Hx
  ihave H := (Entails.of_eq (pointsTo_congr (g := full xs c) fun i hi => write_slot_zero xs c f i hi)) $$ H
  rw [got_slot]
  iexact H

end Cert.KernelIdeal.Body

end

end
-- ==== Proof.Phases.lean ====
/- The phases of the body after the handshake: the own block's copies and product, and the last half-hop. -/
module

public import proofs.«01_k».proof.Proof.Run

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S128x4096 .fp8e5m2) (K : GSem nD τ sig → ℕ) (c : Dev nD)

/-! ## The parts of the run -/

/-- The four copies of the own block. -/
def firstSends (k : P F) : P F :=
  send CM CM_whole sendA recvA (nbs c) (false, 0, 0) <| send CM CM_whole sendA recvA (nbs c) (true, 0, 0) <|
  send CM CM_whole sendA recvA (nbs c) (false, 0, 1) <| send CM CM_whole sendA recvA (nbs c) (true, 0, 1) k

/-- The share of the own block that stays. -/
def Kept : sProp 𝕄 := iprop(got xs c 0 0 fullShare.right.right ∗ got xs c 0 1 fullShare.right.right)

theorem firstSends_step (k : P F) (Kt : PUnit → sProp 𝕄) :
    iprop(known xs K c ∗ (got xs c 0 0 fullShare ∗ got xs c 0 1 fullShare) ∗ (four fun d s => Ready c (d, 0, s))
        ∗ owesW c (owedAll c))
      ⊢ iprop(((Kept xs c ∗ (four fun d s => Out xs c (d, 0, s)) ∗ owesW c (owedHops c hops)) -∗ wp frame (wpE (defs₀ (F := F)) 𝒱₀ (c : Thread nD τ) none) Set.univ k Kt)
        -∗ wp frame (wpE (defs₀ (F := F)) 𝒱₀ (c : Thread nD τ) none) Set.univ (firstSends c k) Kt) := by
  rw [own_split, own_split]
  unfold firstSends four owedAll Kept
  iintro ⟨#Hk, ⟨⟨Ha0, Hb0, Hg0⟩, Ha1, Hb1, Hg1⟩, ⟨Hr0, Hr1, Hr2, Hr3⟩, HO⟩ Hc
  iapply (send_step xs K c (false, 0, 0) rfl) $$ [Ha0 Hr0 HO]
  · isplitr; · iexact Hk
    isplitl [Ha0]; · iexact Ha0
    isplitl [Hr0] <;> iassumption
  iintro ⟨Ho0, HO⟩
  iapply (send_step xs K c (true, 0, 0) rfl) $$ [Hb0 Hr1 HO]
  · isplitr; · iexact Hk
    isplitl [Hb0]; · iexact Hb0
    isplitl [Hr1] <;> iassumption
  iintro ⟨Ho1, HO⟩
  iapply (send_step xs K c (false, 0, 1) rfl) $$ [Ha1 Hr2 HO]
  · isplitr; · iexact Hk
    isplitl [Ha1]; · iexact Ha1
    isplitl [Hr2] <;> iassumption
  iintro ⟨Ho2, HO⟩
  iapply (send_step xs K c (true, 0, 1) rfl) $$ [Hb1 Hr3 HO]
  · isplitr; · iexact Hk
    isplitl [Hb1]; · iexact Hb1
    isplitl [Hr3] <;> iassumption
  iintro ⟨Ho3, HO⟩
  iapply Hc
  isplitl [Hg0 Hg1]; · isplitl [Hg0] <;> iassumption
  isplitr [HO]
  · isplitl [Ho0]; · iexact Ho0
    isplitl [Ho1]; · iexact Ho1
    isplitl [Ho2] <;> iassumption
  iexact HO

/-- The scales and the weights are read, and the own block's product put in its place. -/
def ownProduct (k : F .f32 → FVec F S4096x256 .bf16 → P F) : P F :=
  scale (Memref.whole cc0_stg2_0) fun s₁ => scale (Memref.whole cc0_stg3_0) fun s₂ =>
  .op (.load (Memref.whole cc0_stg1_0 : Memref sig .tc .vmem S4096x256 .fp8e5m2)
    (Rect.unit (s := S4096x256) ![0, 0] S4096x256.size inb_S4096x256_S4096x256_0_0).toLoadRect
    (View.loadsAt_vmem h_S4096x256)) fun w =>
  loadSlot CM 0 fun x₀ =>
  putBlock OM (k0_off4 c) (k0_off4_inb c) (k0_pay7 (k0_pay2 s₁ s₂) (k0_pay3 w) x₀) (k (k0_pay2 s₁ s₂) (k0_pay3 w))

/-- The weights and the two scales of a device, in its memory. -/
def Weights (w : cc0_stg1_0.ty.Contents (Elt F)) (f₂ : cc0_stg2_0.ty.Contents (Elt F)) (f₃ : cc0_stg3_0.ty.Contents (Elt F)) : sProp 𝕄 :=
  iprop(bufPts c cc0_stg1_0 w ∗ bufPts c cc0_stg2_0 f₂ ∗ bufPts c cc0_stg3_0 f₃)

theorem ownProduct_step (w : cc0_stg1_0.ty.Contents (Elt F)) (f₂ : cc0_stg2_0.ty.Contents (Elt F))
    (f₃ : cc0_stg3_0.ty.Contents (Elt F)) (k : F .f32 → FVec F S4096x256 .bf16 → P F) (Kt : PUnit → sProp 𝕄) :
    iprop(Weights c w f₂ f₃ ∗ Kept xs c ∗ rowsAny c c)
      ⊢ iprop(((Weights c w f₂ f₃ ∗ Kept xs c ∗ rowsDone xs c (k0_pay2 (f₂ at0) (f₃ at0)) (k0_pay3 w) c)
          -∗ wp frame (wpE (defs₀ (F := F)) 𝒱₀ (c : Thread nD τ) none) Set.univ (k (k0_pay2 (f₂ at0) (f₃ at0)) (k0_pay3 w)) Kt)
        -∗ wp frame (wpE (defs₀ (F := F)) 𝒱₀ (c : Thread nD τ) none) Set.univ (ownProduct c k) Kt) := by
  unfold ownProduct Weights Kept
  iintro ⟨⟨Hw, H2, H3⟩, Hg, Hr⟩ Hc
  iapply (scale_x c f₂) $$ H2
  iintro H2
  iapply (scale_w c f₃) $$ H3
  iintro H3
  iapply (wp_load_rect 𝒱₀ (c : Thread nD τ) none Set.univ (m := (Memref.whole cc0_stg1_0 : Memref sig .tc .vmem S4096x256 .fp8e5m2))
    (r := Rect.unit (s := S4096x256) ![0, 0] S4096x256.size inb_S4096x256_S4096x256_0_0) (S := Finset.univ) (q := fullShare)
    (f := w) (Finset.subset_univ _)) $$ Hw
  rw [whole_read_w]
  iintro Hw
  iapply (loadSlot_step xs c 0 fullShare.right.right) $$ Hg
  rw [orig_zero]
  iintro Hg
  iapply (putBlock_step xs c c _ (off4_eq c) _ _) $$ Hr
  iintro Hr
  iapply Hc
  isplitl [Hw H2 H3]
  · isplitl [Hw]; · iexact Hw
    isplitl [H2] <;> iassumption
  isplitl [Hg] <;> iassumption

/-- The last half-hop, its block's product, and the departures. -/
def finish (hv : k0_chk1 (lit1 c)) (sc : F .f32) (w : FVec F S4096x256 .bf16) : P F :=
  recv CM CM_whole recvA (false, 15, 0) <| recv CM CM_whole recvA (true, 15, 1) <|
  block OM CM RM (offFore 16 (lit1 c)) (offFore_inb (lit1 c) hv 15) 16 sc w <|
  (departures false).foldr (sent CM CM_whole sendA) <| (departures true).foldr (sent CM CM_whole sendA) <| .ret ⟨⟩

theorem last_right : recvPay xs c (false, 15, 0) = got xs c 16 0 fullShare := rfl
theorem last_left : recvPay xs c (true, 15, 1) = got xs c 16 1 fullShare := rfl
theorem out_not {m : Msg} (h : used m = false) : Out xs c m = Back xs c m := if_neg (by rw [h]; decide)

theorem finish_step {T : cc0_stg4_0.ty.Contents (Elt F)} (hT : Holds lit0 T) (hv : k0_chk1 (lit1 c)) (sc : F .f32)
    (w : FVec F S4096x256 .bf16) (Kt : PUnit → sProp 𝕄) :
    iprop(known xs K c ∗ bufPts c cc0_stg4_0 T ∗ (Await c (false, 15, 0) ∗ Await c (true, 15, 1)) ∗ rowsAny c (orig c 16)
        ∗ (bigSep (Finset.univ : Finset Msg) (Out xs c)) ∗ owesW c 0)
      ⊢ iprop(((bufPts c cc0_stg4_0 T ∗ (recvPay xs c (false, 15, 0) ∗ recvPay xs c (true, 15, 1))
            ∗ (atPos ER (recvCell c (false, 15, 0)) 1 ∅ 0 ∗ atPos ER (recvCell c (true, 15, 1)) 1 ∅ 0)
            ∗ rowsDone xs c sc w (orig c 16) ∗ (bigSep (Finset.univ : Finset Msg) (Back xs c)) ∗ owesW c 0) -∗ wp frame (wpE (defs₀ (F := F)) 𝒱₀ (c : Thread nD τ) none) Set.univ (.ret ⟨⟩) Kt)
          -∗ wp frame (wpE (defs₀ (F := F)) 𝒱₀ (c : Thread nD τ) none) Set.univ (finish c hv sc w) Kt) := by
  unfold finish
  rw [byDeparture (Out xs c), byDeparture (Back xs c), out_not xs c (m := (false, 15, 1)) rfl,
    out_not xs c (m := (true, 15, 0)) rfl, last_right, last_left]
  iintro ⟨#Hk, HT, ⟨Ha, Hb⟩, Hr, ⟨Hd, He, Hu, Hv⟩, HO⟩ Hc
  iapply (recv_step xs K c (false, 15, 0) rfl (above_zero _)) $$ [Ha HO]
  · isplitr; · iexact Hk
    isplitl [Ha] <;> iassumption
  iintro ⟨Hx, Hp, HO⟩
  iapply (recv_step xs K c (true, 15, 1) rfl (above_zero _)) $$ [Hb HO]
  · isplitr; · iexact Hk
    isplitl [Hb] <;> iassumption
  iintro ⟨Hy, Hq, HO⟩
  ihave Hx := (Entails.of_eq (last_right xs c)) $$ Hx
  ihave Hy := (Entails.of_eq (last_left xs c)) $$ Hy
  iapply (block_step xs c hT 16 fullShare (offFore_inb (lit1 c) hv 15) (offFore_eq c 15) sc w) $$ [HT Hx Hy Hr]
  · isplitl [HT]; · iexact HT
    isplitl [Hx Hy]
    · isplitl [Hx]; · iexact Hx
      iexact Hy
    iexact Hr
  iintro ⟨HT, ⟨Hx, Hy⟩, Hr⟩
  iapply (sents_run xs K c _ Kt (departures false) (departures_used false)) $$ [Hd HO]
  · isplitr; · iexact Hk
    isplitl [Hd] <;> iassumption
  iintro ⟨Hd, HO⟩
  iapply (sents_run xs K c _ Kt (departures true) (departures_used true)) $$ [He HO]
  · isplitr; · iexact Hk
    isplitl [He] <;> iassumption
  iintro ⟨He, HO⟩
  iapply Hc
  isplitl [HT]; · iexact HT
  isplitl [Hx Hy]
  · isplitl [Hx]; · iexact Hx
    iexact Hy
  isplitl [Hp Hq]; · isplitl [Hp] <;> iassumption
  isplitl [Hr]; · iexact Hr
  isplitr [HO]
  · isplitl [Hd]; · iexact Hd
    isplitl [He]; · iexact He
    isplitl [Hu]; · iexact Hu
    iexact Hv
  iexact HO

end Cert.KernelIdeal.Body

end

end
-- ==== Proof.Whole.lean ====
/- The whole body run: from the launch's tokens and the arguments to the result and the gathered blocks. -/
module

public import proofs.«01_k».proof.Proof.Phases

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S128x4096 .fp8e5m2) (K : GSem nD τ sig → ℕ) (c : Dev nD)

/-- What a message's two cells give a device before the run: the leave to pay them, and the positions. -/
def Ticket (m : Msg) : sProp 𝕄 :=
  iprop(opt (used m) iprop(dutyTok ER (sendCell c m) 0 false ∗ dutyTok ER (recvCell (nb m.1 c) m) 0 false)
    ∗ atPos ER (sendCell c m) 0 ∅ 0)

theorem ready_all : iprop((bigSep (Finset.univ : Finset Msg) fun m => opt (used m) (target (F := F) (nb m.1 c) m))
      ∗ bigSep (Finset.univ : Finset Msg) (Ticket c))
    ⊢ bigSep (Finset.univ : Finset Msg) (Ready (F := F) c) := by
  have e := sep_all Finset.univ (fun m => opt (used m) (target (F := F) (nb m.1 c) m)) (Ticket c)
  rw [← e]
  refine bigSep_mono fun m _ => ?_
  have h : iprop(opt (used m) (target (F := F) (nb m.1 c) m) ∗ Ticket c m) ⊢ Ready c m := by
    unfold Ticket Ready opt
    split
    · iintro ⟨A, ⟨B, C⟩, D⟩
      isplitr [D]
      · isplitl [A]; · iexact A
        isplitl [B] <;> iassumption
      iexact D
    · iintro ⟨A, B, D⟩
      isplitl [A] <;> iassumption
  exact h

theorem nbs_eq (h₁ : k0_chk2 (lit0 (place c - 1))) (h₂ : k0_chk3 (lit0 (place c + 1))) :
    (fun d => bif d then (⟨k0_dev1 (lit0 (place c - 1)), k0_dev1_lt _ h₁⟩ : Dev nD)
      else ⟨k0_dev2 (lit0 (place c + 1)), k0_dev2_lt _ h₂⟩) = nbs c := by
  funext d
  cases d
  · exact Fin.ext (dev2_eq _)
  · exact Fin.ext (dev1_eq _)

theorem rest_eq (hv : k0_chk1 (lit1 c)) {n : Bool → Dev nD} (h : n = nbs c) :
    rest (F := F) (Memref.whole cc0_stg0_0) (Memref.whole cc0_stg1_0) (Memref.whole cc0_stg2_0) (Memref.whole cc0_stg3_0) RM OM CM
        CM_whole sendA recvA c (lit1 c) hv n
      = greet c (putOwn (firstSends c (ownProduct c fun sc w =>
          hops.foldr (hop OM CM CM_whole sendA recvA (nbs c) RM (lit1 c) hv sc w) (finish c hv sc w)))) := by
  subst h; rfl

/-- What a device holds of the ring before the run. -/
def Before : sProp 𝕄 :=
  iprop(Greeting c ∗ (bigSep (Finset.univ : Finset Msg) (Ticket c)) ∗ bigSep (Finset.univ : Finset Msg) (AwaitAny c))

/-- The positions after the run. -/
def After : sProp 𝕄 :=
  iprop(atPos ER (barCell c) 1 ∅ 0
    ∗ (bigSep (Finset.univ : Finset Msg) fun m => atPos ER (sendCell c m) (past m) ∅ 0)
    ∗ bigSep (Finset.univ : Finset Msg) fun m => atPos ER (recvCell c m) (past m) ∅ 0)

theorem prog_run {T : cc0_stg4_0.ty.Contents (Elt F)} (hT : Holds lit0 T) {Q : cc0_stg5_0.ty.Contents (Elt F)} (hQ : Holds lit1 Q)
    (w : cc0_stg1_0.ty.Contents (Elt F)) (f₂ : cc0_stg2_0.ty.Contents (Elt F)) (f₃ : cc0_stg3_0.ty.Contents (Elt F))
    (y : cc0_stg6_0.ty.Contents (Elt F)) (f : cc0_scratch0.ty.Contents (Elt F)) (Kt : PUnit → sProp 𝕄) :
    iprop(known xs K c ∗ Before c ∗ bufPts c cc0_stg0_0 (xs c) ∗ Weights c w f₂ f₃ ∗ bufPts c cc0_stg4_0 T ∗ bufPts c cc0_stg5_0 Q
        ∗ bufPts c cc0_stg6_0 y ∗ bufPts c cc0_scratch0 f ∗ owesW c (O₀ c))
      ⊢ iprop(((After c ∗ bufPts c cc0_stg0_0 (xs c) ∗ Weights c w f₂ f₃ ∗ bufPts c cc0_stg4_0 T ∗ bufPts c cc0_stg5_0 Q
            ∗ bufPts c cc0_stg6_0 (result xs (k0_pay2 (f₂ at0) (f₃ at0)) (k0_pay3 w)) ∗ bufPts c cc0_scratch0 (full xs c) ∗ owesW c 0)
            -∗ wp frame (wpE (defs₀ (F := F)) 𝒱₀ (c : Thread nD τ) none) Set.univ (.ret ⟨⟩) Kt)
          -∗ wp frame (wpE (defs₀ (F := F)) 𝒱₀ (c : Thread nD τ) none) Set.univ (prog (Memref.whole cc0_stg0_0) (Memref.whole cc0_stg1_0) (Memref.whole cc0_stg2_0) (Memref.whole cc0_stg3_0) RM QM OM
              CM CM_whole sendA recvA) Kt) := by
  unfold prog Before
  simp only [wp_deviceId]
  iintro ⟨#Hk, ⟨Hgr, Htk, Haw⟩, Hx, Hw, HT, HQ, Hy, Hs, HO⟩ Hc
  iapply (word_place c hQ c _ (off1_eq c)) $$ HQ
  iintro HQ
  iapply (wp_assume 𝒱₀ (c : Thread nD τ) none Set.univ (chk1 c))
  iapply (word_ring c hT (place c - 1) _ (off2_eq c)) $$ HT
  iintro HT
  iapply (wp_assume 𝒱₀ (c : Thread nD τ) none Set.univ (chk2 (place c - 1)))
  iapply (word_ring c hT (place c + 1) _ (off3_eq c)) $$ HT
  iintro HT
  iapply (wp_assume 𝒱₀ (c : Thread nD τ) none Set.univ (chk3 (place c + 1)))
  rw [rest_eq c (chk1 c) (nbs_eq c (chk2 _) (chk3 _))]
  ihave Hs := (comm_in c f) $$ Hs
  icases Hs with ⟨Hs0, Hh⟩
  iapply (greet_step xs K c) $$ [Hgr Hh HO]
  · isplitr; · iexact Hk
    isplitl [Hgr]; · iexact Hgr
    isplitl [Hh] <;> iassumption
  iintro ⟨Ht, Hbar, HO⟩
  ihave Hrd := (ready_all c) $$ [Ht Htk]
  · isplitl [Ht] <;> iassumption
  ihave Hrd := (Entails.of_eq (byFirst (Ready (F := F) c))) $$ Hrd
  icases Hrd with ⟨Hrd, Hrds⟩
  ihave Haw := (Entails.of_eq (byLast (AwaitAny (F := F) c))) $$ Haw
  icases Haw with ⟨Haws, Haw⟩
  ihave Hy := (rows_in c y) $$ Hy
  icases Hy with ⟨Hy0, Hy16, Hyf, Hyt⟩
  iapply (putOwn_step xs c f) $$ [Hx Hs0]
  · isplitl [Hx] <;> iassumption
  iintro ⟨Hx, Hg⟩
  iapply (firstSends_step xs K c) $$ [Hg Hrd HO]
  · isplitr; · iexact Hk
    isplitl [Hg]; · iexact Hg
    isplitl [Hrd] <;> iassumption
  iintro ⟨Hg, Ho, HO⟩
  iapply (ownProduct_step xs c w f₂ f₃) $$ [Hw Hg Hy0]
  · isplitl [Hw]; · iexact Hw
    isplitl [Hg] <;> iassumption
  iintro ⟨Hw, Hg, Hy0⟩
  iapply (hops_run xs K c hT (chk1 c) _ _ _ Kt hops (by decide)) $$ [HT Haws Hrds Hyf Hyt HO]
  · isplitr; · iexact Hk
    isplitl [HT]; · iexact HT
    isplitr [HO]
    · iapply (hops_in c)
      isplitl [Haws]
      · have e : (bigSep (Finset.univ : Finset (Fin 15)) fun i => four fun d s => AwaitAny (F := F) c (d, i.castSucc, s))
            = fifteen fun i d s => Await c (d, i.castSucc, s) :=
          fifteen_congr fun i d s => await_used c _ (used_hop d i s)
        rw [← e]; iexact Haws
      isplitl [Hrds]; · unfold fifteen; iexact Hrds
      isplitl [Hyf]; · unfold rowsIn; iexact Hyf
      unfold rowsIn; iexact Hyt
    iexact HO
  iintro ⟨HT, Hl, HO⟩
  ihave Hl := (hops_out xs c _ _) $$ Hl
  icases Hl with ⟨Hkept, Hps, Hos, Hyf, Hyt⟩
  unfold four
  icases Haw with ⟨Hw0, Hw1, Hw2, Hw3⟩
  ihave Hw0 := (Entails.of_eq (await_used (F := F) c (false, 15, 0) rfl)) $$ Hw0
  ihave Hw3 := (Entails.of_eq (await_used (F := F) c (true, 15, 1) rfl)) $$ Hw3
  unfold AwaitAny
  icases Hw1 with ⟨-, Hw1⟩
  icases Hw2 with ⟨-, Hw2⟩
  iapply (finish_step xs K c hT (chk1 c) _ _ Kt) $$ [HT Hw0 Hw3 Hy16 Ho Hos HO]
  · isplitr; · iexact Hk
    isplitl [HT]; · iexact HT
    isplitl [Hw0 Hw3]; · isplitl [Hw0] <;> iassumption
    isplitl [Hy16]; · iexact Hy16
    isplitr [HO]
    · rw [byFirst (Out xs c)]
      unfold fifteen four
      isplitl [Ho] <;> iassumption
    iexact HO
  iintro ⟨HT, Hr, ⟨Hp0, Hp3⟩, Hy16, Hb, HO⟩
  ihave Hall := (gather_out xs c) $$ [Hb Hkept Hps Hg Hr Hp0 Hp3 Hw1 Hw2]
  · isplitl [Hb]; · iexact Hb
    isplitl [Hkept]; · iexact Hkept
    isplitl [Hps]; · iexact Hps
    isplitl [Hg]; · unfold Kept; iexact Hg
    isplitl [Hr]; · iexact Hr
    isplitl [Hp0]; · iexact Hp0
    isplitl [Hw1]; · iexact Hw1
    isplitl [Hw2] <;> iassumption
  icases Hall with ⟨Hs, Hps, Hpr⟩
  iapply Hc
  unfold After
  isplitl [Hbar Hps Hpr]
  · isplitl [Hbar]; · iexact Hbar
    isplitl [Hps] <;> iassumption
  isplitl [Hx]; · iexact Hx
  isplitl [Hw]; · iexact Hw
  isplitl [HT]; · iexact HT
  isplitl [HQ]; · iexact HQ
  isplitl [Hy0 Hy16 Hyf Hyt]
  · rw [← rows_out xs c]
    isplitl [Hy0]; · iexact Hy0
    isplitl [Hy16]; · iexact Hy16
    isplitl [Hyf]; · unfold rowsOut; iexact Hyf
    unfold rowsOut; iexact Hyt
  isplitl [Hs] <;> iassumption

end Cert.KernelIdeal.Body

end

end
-- ==== Proof.Close.lean ====
/- After the run: every cell of the ring is given up, its counter back at zero. -/
module

public import proofs.«01_k».proof.Proof.Whole

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S128x4096 .fp8e5m2) (K : GSem nD τ sig → ℕ) (c : Dev nD)

/-- The kernel's own cells: of every message the departure and the arrival. -/
abbrev ownCell : Bool × Msg → SemLoc sig := fun p => bif p.1 then .dma (recvSem p.2) else .dma (sendSem p.2)

theorem no_more_send (m : Msg) : ∀ r, past m ≤ r → (rd (F := F) xs).duties (sendCell c m) r = ∅ := by
  intro r hr
  cases hu : used m
  · exact duties_send_not xs c m hu r
  · exact duties_later xs _ r (past_used hu ▸ hr)
theorem no_more_recv (m : Msg) : ∀ r, past m ≤ r → (rd (F := F) xs).duties (recvCell c m) r = ∅ := by
  intro r hr
  cases hu : used m
  · exact duties_recv_not xs c m hu r
  · exact duties_later xs _ r (past_used hu ▸ hr)

theorem close_msg (m : Msg) :
    iprop(known xs K c ∗ (atPos ER (sendCell c m) (past m) ∅ 0 ∗ atPos ER (recvCell c m) (past m) ∅ 0))
      ⊢ iprop(|={Set.univ}=> (semVal (sendCell c m) 0 ∗ semVal (recvCell c m) 0)) := by
  iintro ⟨#Hk, Hs, Hr⟩
  ihave #Hi := (known_msg xs K c m) $$ Hk
  unfold msgInvs
  icases Hi with ⟨#Hi1, #Hi2, -⟩
  imod (Rounds.cell_close ER (rd xs) (Set.mem_univ (K (sendCell c m))) id (no_more_send xs c m)) $$ [Hs] with Hs
  · isplitr; · iexact Hi1
    iexact Hs
  imod (Rounds.cell_close ER (rd xs) (Set.mem_univ (K (recvCell c m))) id (no_more_recv xs c m)) $$ [Hr] with Hr
  · isplitr; · iexact Hi2
    iexact Hr
  imodintro
  isplitl [Hs] <;> iassumption

/-- Both counters of every message, by cell. -/
theorem by_cell (Φ : GSem nD τ sig → sProp 𝕄) :
    (bigSep (Finset.univ : Finset (Bool × Msg)) fun p => Φ ((c : Thread nD τ), ownCell p))
      = bigSep (Finset.univ : Finset Msg) fun m => iprop(Φ (sendCell c m) ∗ Φ (recvCell c m)) := by
  rw [bigSep_univ_prod, bigSep_univ_eq_bigSepL [false, true] (by decide) (by decide)]
  exact (sep_all Finset.univ (fun m => Φ (sendCell c m)) fun m => Φ (recvCell c m)).symm

theorem close_all : iprop(known xs K c ∗ After c)
    ⊢ iprop(|={Set.univ}=> (semVal (barCell c) 0 ∗ Pipeline.ownSems0 ownCell c) : sProp 𝕄) := by
  have e : (Pipeline.ownSems0 ownCell c : sProp 𝕄)
      = bigSep (Finset.univ : Finset Msg) fun m => iprop(semVal (sendCell c m) 0 ∗ semVal (recvCell c m) 0) :=
    by_cell c fun g => semVal g 0
  have h := all_with (F := F) (R := known xs K c) (close_msg xs K c) Finset.univ
  rw [e]
  unfold After
  iintro ⟨#Hk, Hb, Hs, Hr⟩
  ihave H := (Entails.of_eq (sep_all Finset.univ (fun m => (atPos ER (sendCell c m) (past m) ∅ 0 : sProp 𝕄))
    fun m => atPos ER (recvCell c m) (past m) ∅ 0).symm) $$ [Hs Hr]
  · isplitl [Hs] <;> iassumption
  ihave H := h $$ [H]
  · isplitr; · iexact Hk
    iexact H
  imod (bigSep_fupd Finset.univ _) $$ [H] with H
  · iexact H
  unfold known invs
  icases Hk with ⟨⟨#Hi, -⟩, -⟩
  imod (Rounds.cell_close ER (rd xs) (Set.mem_univ (K (barCell c))) id (duties_later xs (barCell c))) $$ [Hb] with Hb
  · isplitr; · iexact Hi
    iexact Hb
  imodintro
  isplitl [Hb] <;> iassumption

/-- The body, from what a device holds before it to its ring cells given up. -/
theorem body_run {T : cc0_stg4_0.ty.Contents (Elt F)} (hT : Holds lit0 T) {Q : cc0_stg5_0.ty.Contents (Elt F)} (hQ : Holds lit1 Q)
    (w : cc0_stg1_0.ty.Contents (Elt F)) (f₂ : cc0_stg2_0.ty.Contents (Elt F)) (f₃ : cc0_stg3_0.ty.Contents (Elt F))
    (y : cc0_stg6_0.ty.Contents (Elt F)) (f : cc0_scratch0.ty.Contents (Elt F)) (Kt : PUnit → sProp 𝕄) :
    iprop((known xs K c ∗ Before c ∗ bufPts c cc0_stg0_0 (xs c) ∗ Weights c w f₂ f₃ ∗ bufPts c cc0_stg4_0 T ∗ bufPts c cc0_stg5_0 Q
        ∗ bufPts c cc0_stg6_0 y ∗ bufPts c cc0_scratch0 f ∗ owesW c (O₀ c))
      ∗ ((semVal (barCell c) 0 ∗ Pipeline.ownSems0 ownCell c ∗ bufPts c cc0_stg0_0 (xs c) ∗ Weights c w f₂ f₃
            ∗ bufPts c cc0_stg4_0 T ∗ bufPts c cc0_stg5_0 Q
            ∗ bufPts c cc0_stg6_0 (result xs (k0_pay2 (f₂ at0) (f₃ at0)) (k0_pay3 w)) ∗ bufPts c cc0_scratch0 (full xs c) ∗ owesW c 0)
          -∗ Kt ⟨⟩))
      ⊢ wp frame (wpE (defs₀ (F := F)) 𝒱₀ (c : Thread nD τ) none) Set.univ
          (prog (Memref.whole cc0_stg0_0) (Memref.whole cc0_stg1_0) (Memref.whole cc0_stg2_0) (Memref.whole cc0_stg3_0) RM QM OM
              CM CM_whole sendA recvA) Kt := by
  iintro ⟨⟨#Hk, H⟩, Hc⟩
  iapply (prog_run xs K c hT hQ w f₂ f₃ y f Kt) $$ [H]
  · isplitr; · iexact Hk
    iexact H
  iintro ⟨Ha, H⟩
  beta_reduce
  rw [wp_ret]
  imod (close_all xs K c) $$ [Ha] with ⟨Hb, Ho⟩
  · isplitr; · iexact Hk
    iexact Ha
  imodintro
  iapply Hc
  isplitl [Hb]; · iexact Hb
  isplitl [Ho]; · iexact Ho
  iexact H

end Cert.KernelIdeal.Body

end

end
-- ==== Proof.Body.lean ====
/- The body at the region's one point: what its windows hold, what it starts from, and what it leaves. -/
module

public import proofs.«01_k».proof.Proof.Close
public import proofs.«01_k».proof.Proof.Gen.KernelIdeal.Frame

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The windows: each one the whole of its array -/

/-- Every device's block of the left factor. -/
def blocks (d : Dev nD) : Vec F S128x4096 .fp8e5m2 := V m d main_arg0

/-- What a device's result holds in the end. -/
def outOf : cc0_stg6_0.ty.Contents (Elt F) :=
  result (blocks m) (k0_pay2 (V m c main_arg2 at0) (V m c main_arg3 at0)) (k0_pay3 (V m c main_arg1))

/-- A block as large as its array starts at the array's corner. -/
theorem blk2 {n₀ n₁ : ℕ} (i : (⟨2, ![n₀, n₁]⟩ : Shape).Idx) (f : (⟨2, ![n₀, n₁]⟩ : Shape).Idx)
    (h : ∀ a, (f a : ℕ) = 0 * (![n₀, n₁] a) + 1 * (i a : ℕ)) : f = i :=
  funext fun a => Fin.ext (by rw [h a]; omega)
theorem blk1 {n₀ : ℕ} (i : (⟨1, ![n₀]⟩ : Shape).Idx) (f : (⟨1, ![n₀]⟩ : Shape).Idx)
    (h : ∀ a, (f a : ℕ) = 0 * (![n₀] a) + 1 * (i a : ℕ)) : f = i :=
  funext fun a => Fin.ext (by rw [h a]; omega)

theorem read_0 (t : Fin cfg0.N) (f : main_arg0.ty.Contents (Elt F)) : ((cfg0.win 0).blk t).view.read (Elt F) f = f :=
  funext fun i => congrArg f (blk2 (n₀ := 128) (n₁ := 4096) i _ fun a => rfl)
theorem read_1 (t : Fin cfg0.N) (f : main_arg1.ty.Contents (Elt F)) : ((cfg0.win 1).blk t).view.read (Elt F) f = f :=
  funext fun i => congrArg f (blk2 (n₀ := 4096) (n₁ := 256) i _ fun a => rfl)
theorem read_2 (t : Fin cfg0.N) (f : main_arg2.ty.Contents (Elt F)) : ((cfg0.win 2).blk t).view.read (Elt F) f = f :=
  funext fun i => congrArg f (blk1 (n₀ := 1) i _ fun a => rfl)
theorem read_3 (t : Fin cfg0.N) (f : main_arg3.ty.Contents (Elt F)) : ((cfg0.win 3).blk t).view.read (Elt F) f = f :=
  funext fun i => congrArg f (blk1 (n₀ := 1) i _ fun a => rfl)
theorem read_4 (t : Fin cfg0.N) (f : main_c.ty.Contents (Elt F)) : ((cfg0.win 4).blk t).view.read (Elt F) f = f :=
  funext fun i => congrArg f (blk1 (n₀ := 32) i _ fun a => rfl)
theorem read_5 (t : Fin cfg0.N) (f : main_c_0.ty.Contents (Elt F)) : ((cfg0.win 5).blk t).view.read (Elt F) f = f :=
  funext fun i => congrArg f (blk1 (n₀ := 32) i _ fun a => rfl)
theorem read_6 (t : Fin cfg0.N) (f : main_v1.ty.Contents (Elt F)) : ((cfg0.win 6).blk t).view.read (Elt F) f = f :=
  funext fun i => congrArg f (blk2 (n₀ := 4096) (n₁ := 256) i _ fun a => rfl)

theorem row_32 (i : S32.Idx) : S32.rowMajor i = i 0 := Fin.ext (Shape.rowMajor_val_one i)

/-- The two tables, as the host wrote them. -/
theorem ring_table : Holds lit0 (V m c main_c) := by
  intro i
  have h : V m c main_c = fun i => lit0 (S32.rowMajor i) :=
    by
      unfold V hostOps0
      simp only [StableHlo.after_cons, StableHlo.after_nil]
      exact (StableHlo.nullary_result_ne (τ := τ) (y := main_c_0) _ _ _ (by decide)).trans (StableHlo.nullary_result main_c _ _ _)
  exact (congrFun h i).trans (congrArg lit0 (row_32 i))
theorem place_table : Holds lit1 (V m c main_c_0) := by
  intro i
  have h : V m c main_c_0 = fun i => lit1 (S32.rowMajor i) := by
    unfold V hostOps0
    simp only [StableHlo.after_cons, StableHlo.after_nil]
    exact StableHlo.nullary_result main_c_0 _ _ _
  exact (congrFun h i).trans (congrArg lit1 (row_32 i))

/-! ## The region's data -/

/-- The gathering buffer, at contents not chosen. -/
def scratch : sProp 𝕄 := iprop(∃ f, bufPts (F := F) c cc0_scratch0 f)

/-- What the body starts from, and what it leaves. -/
def Start : sProp 𝕄 :=
  iprop((∃ K, known (blocks m) K c ∗ Before c) ∗ scratch (F := F) c ∗ ∃ r, prngReg c r)
def Done : sProp 𝕄 :=
  iprop((semVal (barCell c) 0 ∗ Pipeline.ownSems0 ownCell c) ∗ scratch (F := F) c ∗ ∃ r, prngReg c r)

/-- The arrays as the region finds them, and what the body makes of each buffer. -/
def dat : Dat τ (Elt F) Unit ℕ UU ℕ cfg0 c where
  A w := V m c (Pipeline.arrRef spec0 w)
  after w t := match w with
    | ⟨0, _⟩ => V m c main_arg0
    | ⟨1, _⟩ => V m c main_arg1
    | ⟨2, _⟩ => V m c main_arg2
    | ⟨3, _⟩ => V m c main_arg3
    | ⟨4, _⟩ => V m c main_c
    | ⟨5, _⟩ => V m c main_c_0
    | ⟨6, _⟩ => outOf m c
  Φ t := if t.val = 0 then Start m c else Done (F := F) c
  q _ := fullShare
  owed t := if t.val = 0 then O₀ c else 0

theorem before_0 (t : Fin cfg0.N) (d) : (dat m c).before 0 t d = V m c main_arg0 :=
  ((dat m c).before_fetched 0 t (fetch0_0 t) d).trans (by
    unfold Dat.fetched Dat.blockOf dat; exact read_0 t (V m c main_arg0))
theorem before_1 (t : Fin cfg0.N) (d) : (dat m c).before 1 t d = V m c main_arg1 :=
  ((dat m c).before_fetched 1 t (fetch0_1 t) d).trans (by
    unfold Dat.fetched Dat.blockOf dat; exact read_1 t (V m c main_arg1))
theorem before_2 (t : Fin cfg0.N) (d) : (dat m c).before 2 t d = V m c main_arg2 :=
  ((dat m c).before_fetched 2 t (fetch0_2 t) d).trans (by
    unfold Dat.fetched Dat.blockOf dat; exact read_2 t (V m c main_arg2))
theorem before_3 (t : Fin cfg0.N) (d) : (dat m c).before 3 t d = V m c main_arg3 :=
  ((dat m c).before_fetched 3 t (fetch0_3 t) d).trans (by
    unfold Dat.fetched Dat.blockOf dat; exact read_3 t (V m c main_arg3))
theorem before_4 (t : Fin cfg0.N) (d) : (dat m c).before 4 t d = V m c main_c :=
  ((dat m c).before_fetched 4 t (fetch0_4 t) d).trans (by
    unfold Dat.fetched Dat.blockOf dat; exact read_4 t (V m c main_c))
theorem before_5 (t : Fin cfg0.N) (d) : (dat m c).before 5 t d = V m c main_c_0 :=
  ((dat m c).before_fetched 5 t (fetch0_5 t) d).trans (by
    unfold Dat.fetched Dat.blockOf dat; exact read_5 t (V m c main_c_0))

/-- The pipeline's account of what the core owes, at `O`. -/
theorem owes_in (t : Fin (cfg0.N + 1)) {O : CellTallies nD τ sig Unit} (h : (dat m c).owed t = O) :
    owesW (F := F) c O ⊢ (dat m c).owesAt () t := by
  unfold owesW Dat.owesAt Pipeline.owesWithin Dat.bound
  rw [h]
  iintro ⟨%W, HO⟩
  iexists W
  isplitr
  · ipureintro; exact fun _ _ => Or.inl trivial
  iexact HO
theorem owes_out (t : Fin (cfg0.N + 1)) {O : CellTallies nD τ sig Unit} (h : (dat m c).owed t = O) :
    (dat m c).owesAt () t ⊢ owesW (F := F) c O := by
  unfold owesW Dat.owesAt Pipeline.owesWithin
  rw [h]
  iintro ⟨%W, -, HO⟩
  iexists W
  iexact HO

theorem owed_first : (dat m c).owed 0 = O₀ c := by
  show (if (0 : Fin (cfg0.N + 1)).val = 0 then O₀ c else 0) = O₀ c
  exact if_pos rfl
theorem owed_last : (dat m c).owed (Fin.last _) = 0 := by
  show (if (Fin.last cfg0.N).val = 0 then O₀ c else 0) = 0
  exact if_neg (by rw [Fin.val_last, show cfg0.N = 1 from N_0]; decide)
theorem state_first : (dat m c).Φ 0 = Start m c := by
  show (if (0 : Fin (cfg0.N + 1)).val = 0 then Start m c else Done c) = Start m c
  exact if_pos rfl
theorem state_last : (dat m c).Φ (Fin.last _) = Done (F := F) c := by
  show (if (Fin.last cfg0.N).val = 0 then Start m c else Done c) = Done c
  exact if_neg (by rw [Fin.val_last, show cfg0.N = 1 from N_0]; decide)

theorem defs_row (t : Fin cfg0.N) : (defs₀ (F := F)) .tc cfg0.body (cfg0.bodyArgs t (cfg0.slots t)) = bodyAt0 t := by
  unfold defs₀
  rw [Defs.onTc_tc]

/-- The pipeline calls the body on the staging buffers. -/
theorem body_at : (bodyAt0 t0_0 : P F)
    = prog (Memref.whole cc0_stg0_0) (Memref.whole cc0_stg1_0) (Memref.whole cc0_stg2_0) (Memref.whole cc0_stg3_0) RM QM OM
        CM CM_whole sendA recvA :=
  body_eq (Memref.whole cc0_stg0_0) (hstage0_0 0) (Memref.whole cc0_stg1_0) (hstage0_1 0) (Memref.whole cc0_stg2_0) (hstage0_2 0)
    (Memref.whole cc0_stg3_0) (hstage0_3 0) (Memref.whole cc0_stg4_0) (hstage0_4 0) (Memref.whole cc0_stg5_0) (hstage0_5 0)
    (Memref.whole cc0_stg6_0) (hstage0_6 0) (Memref.whole cc0_scratch0) (Memref.isWhole_whole _) cc0_scratch1 cc0_scratch2
    cc0_scratch3 cc0_scratch4

/-- A staging buffer, owned whole. -/
theorem owned (r : Ref sig .tc) (f : r.ty.Contents (Elt F)) :
    (owns (c : Thread nD τ) (Memref.whole r) fullShare f : sProp 𝕄) = bufPts c r f := owns_whole (c : Thread nD τ) r fullShare f

theorem body_point :
    iprop((dat m c).Φ t0_0.castSucc ∗ (dat m c).owesAt () t0_0.castSucc
        ∗ (∃ d, owns (c : Thread nD τ) (st0_0 t0_0) fullShare ((dat m c).before 0 t0_0 d))
        ∗ (∃ d, owns (c : Thread nD τ) (st0_1 t0_0) fullShare ((dat m c).before 1 t0_0 d))
        ∗ (∃ d, owns (c : Thread nD τ) (st0_2 t0_0) fullShare ((dat m c).before 2 t0_0 d))
        ∗ (∃ d, owns (c : Thread nD τ) (st0_3 t0_0) fullShare ((dat m c).before 3 t0_0 d))
        ∗ (∃ d, owns (c : Thread nD τ) (st0_4 t0_0) fullShare ((dat m c).before 4 t0_0 d))
        ∗ (∃ d, owns (c : Thread nD τ) (st0_5 t0_0) fullShare ((dat m c).before 5 t0_0 d))
        ∗ (∃ d, owns (c : Thread nD τ) (st0_6 t0_0) fullShare ((dat m c).before 6 t0_0 d)))
      ⊢ wp frame (wpE (defs₀ (F := F)) 𝒱₀ (c : Thread nD τ) none) Set.univ
          (prog (Memref.whole cc0_stg0_0) (Memref.whole cc0_stg1_0) (Memref.whole cc0_stg2_0) (Memref.whole cc0_stg3_0) RM QM OM
              CM CM_whole sendA recvA) fun _ =>
          iprop((dat m c).Φ t0_0.succ ∗ (dat m c).owesAt () t0_0.succ
            ∗ owns (c : Thread nD τ) (st0_0 t0_0) fullShare ((dat m c).after 0 t0_0)
            ∗ owns (c : Thread nD τ) (st0_1 t0_0) fullShare ((dat m c).after 1 t0_0)
            ∗ owns (c : Thread nD τ) (st0_2 t0_0) fullShare ((dat m c).after 2 t0_0)
            ∗ owns (c : Thread nD τ) (st0_3 t0_0) fullShare ((dat m c).after 3 t0_0)
            ∗ owns (c : Thread nD τ) (st0_4 t0_0) fullShare ((dat m c).after 4 t0_0)
            ∗ owns (c : Thread nD τ) (st0_5 t0_0) fullShare ((dat m c).after 5 t0_0)
            ∗ owns (c : Thread nD τ) (st0_6 t0_0) fullShare ((dat m c).after 6 t0_0)) := by
  rw [show (dat m c).Φ t0_0.castSucc = Start m c from state_first m c,
    show (dat m c).Φ t0_0.succ = Done (F := F) c from state_last m c]
  simp only [before_0, before_1, before_2, before_3, before_4, before_5]
  unfold Start Done scratch
  iintro ⟨⟨⟨%K, #Hk, Hb⟩, ⟨%f, Hs⟩, Hp⟩, HO, ⟨%d0, H0⟩, ⟨%d1, H1⟩, ⟨%d2, H2⟩, ⟨%d3, H3⟩, ⟨%d4, H4⟩, ⟨%d5, H5⟩, ⟨%d6, H6⟩⟩
  ihave HO := (owes_out m c t0_0.castSucc (owed_first m c)) $$ HO
  ihave H0 := (Entails.of_eq (owned c cc0_stg0_0 _)) $$ H0
  ihave H1 := (Entails.of_eq (owned c cc0_stg1_0 _)) $$ H1
  ihave H2 := (Entails.of_eq (owned c cc0_stg2_0 _)) $$ H2
  ihave H3 := (Entails.of_eq (owned c cc0_stg3_0 _)) $$ H3
  ihave H4 := (Entails.of_eq (owned c cc0_stg4_0 _)) $$ H4
  ihave H5 := (Entails.of_eq (owned c cc0_stg5_0 _)) $$ H5
  ihave H6 := (Entails.of_eq (owned c cc0_stg6_0 _)) $$ H6
  iapply (body_run (blocks m) K c (ring_table m c) (place_table m c) (V m c main_arg1) (V m c main_arg2) (V m c main_arg3) _ f _)
  isplitl [Hb Hs HO H0 H1 H2 H3 H4 H5 H6]
  · isplitr; · iexact Hk
    isplitl [Hb]; · iexact Hb
    isplitl [H0]; · iexact H0
    isplitl [H1 H2 H3]
    · unfold Weights
      isplitl [H1]; · iexact H1
      isplitl [H2] <;> iassumption
    isplitl [H4]; · iexact H4
    isplitl [H5]; · iexact H5
    isplitl [H6]; · iexact H6
    isplitl [Hs] <;> iassumption
  unfold Weights
  iintro ⟨Hb, Ho, H0, ⟨H1, H2, H3⟩, H4, H5, H6, Hs, HO⟩
  isplitl [Hb Ho Hs Hp]
  · isplitl [Hb Ho]; · isplitl [Hb] <;> iassumption
    isplitl [Hs]; · iexists _; iexact Hs
    iexact Hp
  isplitl [HO]; · iapply (owes_in m c t0_0.succ (owed_last m c)); iexact HO
  isplitl [H0]; · iapply (Entails.of_eq (owned c cc0_stg0_0 (V m c main_arg0)).symm); iexact H0
  isplitl [H1]; · iapply (Entails.of_eq (owned c cc0_stg1_0 (V m c main_arg1)).symm); iexact H1
  isplitl [H2]; · iapply (Entails.of_eq (owned c cc0_stg2_0 (V m c main_arg2)).symm); iexact H2
  isplitl [H3]; · iapply (Entails.of_eq (owned c cc0_stg3_0 (V m c main_arg3)).symm); iexact H3
  isplitl [H4]; · iapply (Entails.of_eq (owned c cc0_stg4_0 (V m c main_c)).symm); iexact H4
  isplitl [H5]; · iapply (Entails.of_eq (owned c cc0_stg5_0 (V m c main_c_0)).symm); iexact H5
  iapply (Entails.of_eq (owned c cc0_stg6_0 (outOf m c)).symm); iexact H6

theorem body_meets : BodyObligation (dat m c) (defs₀ (F := F)) 𝒱₀ () Set.univ := fun t => by
  obtain rfl := fin_N0 t
  rw [bigSep_W0, bigSep_W0, defs_row]
  exact triple_restated (body_point m c) (congrArg (wp frame (wpE (defs₀ (F := F)) 𝒱₀ (c : Thread nD τ) none) Set.univ) body_at.symm) .rfl fun _ => .rfl

end Cert.KernelIdeal.Body

end

end
-- ==== Proof.Region.lean ====
/- The region around the body: what the program holds when it enters it and when it leaves it. -/
module

public import proofs.«01_k».proof.Proof.Body
public import Idealize.ShloMosaic.Lib.Pipeline.RegionTalk
public import Idealize.ShloMosaic.Lib.Pipeline.Value

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev adm : (p : Fin 1) → (pcfgs (F := F) p).Adm := fun p => (cfgs p).toPCfg_adm
/-- The one region's data. -/
def pdats : (p : Fin 1) → (c : Dev nD) → Dat τ (Elt F) Unit ℕ UU ℕ (Pipeline.pin (pcfgs (F := F)) adm p) c
  | 0 => dat m

/-- The arrays at the launch, after the host's two tables, and after the region. -/
abbrev W₀ (c : Dev nD) : Valuation τ sig (Elt F) := fun b => m (c, b)
abbrev W₁ (c : Dev nD) : Valuation τ sig (Elt F) := StableHlo.after hostOps0 (W₀ m c)
abbrev W₂ (c : Dev nD) : Valuation τ sig (Elt F) := Function.update (W₁ m c) (Proc.devRef .tc main_v1) (outOf m c)

variable (K : GSem nD τ sig → ℕ) (c : Dev nD)

/-! ## Before the cells are open -/

/-- The leave to pay a message's two cells. -/
def Pays (i : Msg) : sProp 𝕄 :=
  opt (used i) iprop(dutyTok ER (sendCell c i) 0 false ∗ dutyTok ER (recvCell (nb i.1 c) i) 0 false)
/-- The leave to open them. -/
def Opens (i : Msg) : sProp 𝕄 := iprop(openTok ER (sendCell c i) ∗ openTok ER (recvCell c i))
/-- The arrival it may wait for. -/
def Due (i : Msg) : sProp 𝕄 := opt (used i) (cred (tallyAt (recvCell c i) () N))

def Ghost : sProp 𝕄 :=
  iprop(invs (blocks m) K c ∗ (reached ER (barCell (nb true c)) 0 ∗ reached ER (barCell (nb false c)) 0)
    ∗ atPos ER (barCell c) 0 ∅ 0
    ∗ (dutyTok ER (barCell (nb true c)) 0 false ∗ dutyTok ER (barCell (nb false c)) 0 true)
    ∗ (bigSep (Finset.univ : Finset Msg) (Opens c)) ∗ bigSep (Finset.univ : Finset Msg) (Pays c))

/-- What the program's launch keeps for the region. -/
def Held : sProp 𝕄 :=
  iprop((∃ K, Ghost m K c) ∗ cred (tallyAt (barCell c) () 2) ∗ bigSep (Finset.univ : Finset Msg) (Due c))

def Opened : sProp 𝕄 := iprop(∃ K, known (blocks m) K c ∗ Before c)

theorem open_msg (i : Msg) :
    iprop(invs (blocks m) K c ∗ (Opens c i ∗ (semVal (sendCell c i) 0 ∗ semVal (recvCell c i) 0)))
      ⊢ iprop(|={Set.univ}=> ((atPos ER (sendCell c i) 0 ∅ 0 ∗ atPos ER (recvCell c i) 0 ∅ 0)
        ∗ (reached ER (sendCell c i) 0 ∗ reached ER (recvCell c i) 0))) := by
  unfold Opens invs
  iintro ⟨⟨-, -, #Hi⟩, ⟨Hs, Hr⟩, Vs, Vr⟩
  ihave #Hm := (pick (F := F) i) $$ Hi
  unfold msgInvs
  icases Hm with ⟨#Hi1, #Hi2, -⟩
  imod (Rounds.cell_open ER (rd (blocks m)) (g := sendCell c i) (Set.mem_univ (K (sendCell c i)))) $$ [Hs Vs] with ⟨Hs, Rs⟩
  · isplitr; · iexact Hi1
    isplitl [Hs] <;> iassumption
  imod (Rounds.cell_open ER (rd (blocks m)) (g := recvCell c i) (Set.mem_univ (K (recvCell c i)))) $$ [Hr Vr] with ⟨Hr, Rr⟩
  · isplitr; · iexact Hi2
    isplitl [Hr] <;> iassumption
  imodintro
  isplitl [Hs Hr]; · isplitl [Hs] <;> iassumption
  isplitl [Rs] <;> iassumption

/-- The region opens every cell of the ring. -/
theorem open_all : iprop(Held m c ∗ Pipeline.ownSems0 ownCell c ∗ levAts L lv) ⊢ (|={Set.univ}=> Opened m c : sProp 𝕄) := by
  have e : (Pipeline.ownSems0 ownCell c : sProp 𝕄)
      = bigSep (Finset.univ : Finset Msg) fun i => iprop(semVal (sendCell c i) 0 ∗ semVal (recvCell c i) 0) :=
    by_cell c fun g => semVal g 0
  rw [e]
  unfold Held Ghost
  iintro ⟨⟨⟨%K, #Hi, ⟨#Rt, #Rf⟩, Hb, ⟨Tt, Tf⟩, Ho, Hp⟩, Cb, Cm⟩, Hv, #Hl⟩
  ihave H := (Entails.of_eq (sep_all Finset.univ (Opens (F := F) c)
    fun i => iprop(semVal (sendCell c i) 0 ∗ semVal (recvCell c i) 0)).symm) $$ [Ho Hv]
  · isplitl [Ho] <;> iassumption
  ihave H := (all_with (F := F) (R := invs (blocks m) K c) (open_msg m K c) Finset.univ) $$ [H]
  · isplitr; · iexact Hi
    iexact H
  imod (bigSep_fupd Finset.univ _) $$ [H] with H
  · iexact H
  ihave H := (Entails.of_eq (sep_all Finset.univ
    (fun i => (iprop(atPos ER (sendCell c i) 0 ∅ 0 ∗ atPos ER (recvCell c i) 0 ∅ 0) : sProp 𝕄))
    fun i => iprop(reached ER (sendCell c i) 0 ∗ reached ER (recvCell c i) 0))) $$ H
  icases H with ⟨Ha, #Hr⟩
  ihave Ha := (Entails.of_eq (sep_all Finset.univ (fun i => (atPos ER (sendCell c i) 0 ∅ 0 : sProp 𝕄))
    fun i => atPos ER (recvCell c i) 0 ∅ 0)) $$ Ha
  icases Ha with ⟨Hs, Hr'⟩
  imodintro
  unfold Opened
  iexists K
  isplitr
  · unfold known
    isplitr; · iexact Hi
    isplitr; · iexact Hr
    iexact Hl
  unfold Before
  isplitl [Hb Tt Tf Cb]
  · unfold Greeting
    isplitr; · iexact Rt
    isplitr; · iexact Rf
    isplitl [Tt]; · iexact Tt
    isplitl [Tf]; · iexact Tf
    isplitl [Cb] <;> iassumption
  isplitl [Hp Hs]
  · iapply (Entails.of_eq (sep_all Finset.univ (Pays (F := F) c) fun i => atPos ER (sendCell c i) 0 ∅ 0).symm)
    isplitl [Hp] <;> iassumption
  iapply (Entails.of_eq (sep_all Finset.univ (Due (F := F) c) fun i => atPos ER (recvCell c i) 0 ∅ 0).symm)
  isplitl [Cm] <;> iassumption

/-! ## The record of the region -/

theorem held_none (W : Valuation τ sig (Elt F)) : (StableHlo.held (c : Thread nD τ) ∅ W : sProp 𝕄) = BI.emp := by
  unfold StableHlo.held; exact BI.bigSep_empty

theorem enters : iprop(Pipeline.scopedRest spec0 c ∗ (∃ r, prngReg c r) ∗ StableHlo.held (c : Thread nD τ) ∅ (W₁ m c) ∗ Opened m c)
    ⊢ (dat m c).Φ 0 := by
  rw [state_first, scopedRest0_eq]
  unfold Start scratch Opened
  iintro ⟨Hs, Hp, -, Ho⟩
  isplitl [Ho]; · iexact Ho
  isplitl [Hs] <;> iassumption

theorem leaves : (dat m c).Φ (Fin.last cfg0.N)
    ⊢ iprop(Pipeline.scopedRest spec0 c ∗ (∃ r, prngReg c r) ∗ StableHlo.held (c : Thread nD τ) ∅ (W₂ m c)
      ∗ Pipeline.ownSems0 ownCell c ∗ semVal (barCell c) 0) := by
  rw [state_last, scopedRest0_eq, held_none]
  unfold Done scratch
  iintro ⟨⟨Hb, Ho⟩, Hs, Hp⟩
  isplitl [Hs]; · iexact Hs
  isplitl [Hp]; · iexact Hp
  isplitr; · iempintro
  isplitl [Ho] <;> iassumption

theorem above_start : Above 0 (O₀ c) :=
  (((above_all c).mono (by decide)).add (above_tally rfl (by rw [lv_bar]; decide))).add (above_tally rfl (by rw [lv_bar]; decide))

theorem owed_above (t : Fin (cfg0.N + 1)) : Above 0 ((dat m c).owed t) := by
  show Above 0 (if t.val = 0 then O₀ c else 0)
  split
  · exact above_start c
  · exact above_zero 0

theorem in_L {g : GSem nD τ sig} (h : g.1.2 = .tc) (u : Unit) : u ∈ L g := by
  unfold L; rw [if_pos h]; exact Finset.mem_singleton_self _

theorem stage_level (w : Fin 7) (s : Fin (spec0 w).nbuf) : levelOf (role (.dma ((spec0 w).sem s))) = 0 := by
  revert w; decide +kernel

/-- What the flush leaves of the result. -/
theorem flushed_out : (dat m c).arrAt 6 1 = outOf m c :=
  (read_6 t0_0 _).symm.trans ((dat m c).read_blk_arrAt_eq_flushed 6
    (fun t t' _ _ h => absurd ((fin_N0 t).trans (fin_N0 t').symm) h) 1 t0_0 Nat.one_pos (flush0_6 t0_0))

theorem array_first (w : Fin 7) : (dat m c).arrAt w 0 = W₁ m c (Proc.devRef .tc (Pipeline.arrRef spec0 w)) := rfl

theorem input_ne {r : Ref sig .tc} (h : r ≠ main_v1) : W₂ m c (Proc.devRef .tc r) = W₁ m c (Proc.devRef .tc r) :=
  Function.update_of_ne (StableHlo.devRef_ne_of_ne h) _ _

theorem array_last : ∀ w : Fin 7, (dat m c).arrAt w cfg0.N = W₂ m c (Proc.devRef .tc (Pipeline.arrRef spec0 w))
  | 0 => ((dat m c).arrAt_in 0 rfl _).trans (input_ne m c (r := main_arg0) (by decide)).symm
  | 1 => ((dat m c).arrAt_in 1 rfl _).trans (input_ne m c (r := main_arg1) (by decide)).symm
  | 2 => ((dat m c).arrAt_in 2 rfl _).trans (input_ne m c (r := main_arg2) (by decide)).symm
  | 3 => ((dat m c).arrAt_in 3 rfl _).trans (input_ne m c (r := main_arg3) (by decide)).symm
  | 4 => ((dat m c).arrAt_in 4 rfl _).trans (input_ne m c (r := main_c) (by decide)).symm
  | 5 => ((dat m c).arrAt_in 5 rfl _).trans (input_ne m c (r := main_c_0) (by decide)).symm
  | 6 => (flushed_out m c).trans (Function.update_self (Proc.devRef .tc main_v1) (outOf m c) (W₁ m c)).symm

theorem own_facts : Pipeline.OwnSemFacts spec0 ownCell := by decide +kernel

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 ownCell own_facts ∅ ∅ (Finset.Subset.refl _)
    launch0.toP rfl (fun c => (body_meets m c).loose) (fun _ => 0) O₀
    (fun c => (owed_first m c).trans (zero_add _).symm) (owed_last m) (fun _ => rfl) (fun c w => (dat m c).share_full (fun _ => rfl) w)
    (W₁ m) (W₂ m) (fun _ b hb => absurd hb (by rw [Finset.sdiff_self]; exact Finset.notMem_empty b))
    (Held m) (fun c => semVal (barCell c) 0) (Opened m) (fun c => semVal (barCell c) 0) (open_all m) (enters m) (leaves m)
    (fun c => by iintro H; imodintro; iexact H)
    (fun _ => 0)
    ⟨fun c w s => in_L rfl (), fun c w s => (stage_level w s).le,
      fun c t g i h => ⟨in_L (owed_above m c t g i h).1 i, (owed_above m c t g i h).2⟩⟩
    (fun _ => iprop(emp)) (array_first m) (array_last m)

/-- Every array of the program is one of the region's. -/
theorem arrays_all : Pipeline.arrRefs (τ := τ) spec0 = Pipeline.ucRefs τ sig := by decide +kernel

/-- What the program holds beside its arrays before the region. -/
def Rest : sProp 𝕄 := iprop((Held m c ∗ ∃ r, prngReg c r) ∗ ∃ W, owes (c : Thread nD τ) (O₀ c) W)

theorem region_pre : iprop(StableHlo.held (c : Thread nD τ) (Pipeline.ucRefs τ sig) (W₁ m c) ∗ Rest m c) ⊢ (region m).pre c := by
  show _ ⊢ iprop(StableHlo.held (c.tc : Thread nD τ) (Pipeline.arrRefs (τ := τ) spec0) (W₁ m c) ∗ (∃ r, prngReg c r)
    ∗ (StableHlo.held (c.tc : Thread nD τ) ∅ (W₁ m c) ∗ emp) ∗ Held m c ∗ ∃ Wd, owes (c : Thread nD τ) (0 + O₀ c) Wd)
  rw [held_none, zero_add, arrays_all]
  unfold Rest
  iintro ⟨Ha, ⟨Hh, Hp⟩, HO⟩
  isplitl [Ha]; · iexact Ha
  isplitl [Hp]; · iexact Hp
  isplitr; · isplitr <;> iempintro
  isplitl [Hh] <;> iassumption

theorem region_post : (region m).post c ⊢ iprop((StableHlo.held (c : Thread nD τ) (Pipeline.ucRefs τ sig) (W₂ m c)
    ∗ semVal (barCell c) 0) ∗ ∃ W, owes (c : Thread nD τ) (0 : CellTallies nD τ sig Unit) W) := by
  show iprop(StableHlo.held (c.tc : Thread nD τ) (Pipeline.arrRefs (τ := τ) spec0) (W₂ m c) ∗ (∃ r, prngReg c r)
    ∗ (StableHlo.held (c.tc : Thread nD τ) ∅ (W₂ m c) ∗ emp) ∗ semVal (barCell c) 0
    ∗ ∃ Wd, owes (c : Thread nD τ) (0 : CellTallies nD τ sig Unit) Wd) ⊢ _
  rw [arrays_all]
  iintro ⟨Ha, -, -, Hb, HO⟩
  isplitl [Ha Hb]; · isplitl [Ha] <;> iassumption
  iexact HO

/-- The two tables the host writes. -/
def tables : Pipeline.HostSeg (Name := ℕ) (U := UU) (pcfgs (F := F)) defs₀ 𝒱₀ L lv :=
  Pipeline.HostSeg.ofOps _ _ _ _ _ (Pipeline.ucRefs τ sig) hostOps0
    (fun op h b hb => Pipeline.sub_ucRefs op (List.forall_iff_forall_mem.mp hostOps0_sub op h) hb)
    (fun op h => List.forall_iff_forall_mem.mp hostOps0_fresh op h) (W₀ m) (Rest m)

end Cert.KernelIdeal.Body

end

end
-- ==== Proof.Launch.lean ====
/- The launch: the cells of the ring funded, and the tokens and credits dealt to the devices that use them. -/
module

public import proofs.«01_k».proof.Proof.Region

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the devices owe, as credits -/

/-- A sum over all messages, in the order the kernel sends them. -/
theorem sum_msgs {A : Type} [AddCommMonoid A] (f : Msg → A) :
    ∑ i, f i = (∑ i : Fin 15, (f (true, i.succ, 1) + f (false, i.succ, 1) + f (true, i.succ, 0) + f (false, i.succ, 0)))
      + f (true, 0, 1) + f (false, 0, 1) + f (true, 0, 0) + f (false, 0, 0) := by
  simp only [Fintype.sum_prod_type, Fintype.sum_bool, Fin.sum_univ_two, Fin.sum_univ_succ (n := 15), Finset.sum_add_distrib]
  ac_rfl

theorem owedHops_sum : ∀ l : List (Fin 15), owedHops c l
    = (l.map fun i => owed c (true, i.succ, 1) + owed c (false, i.succ, 1) + owed c (true, i.succ, 0) + owed c (false, i.succ, 0)).sum
  | [] => rfl
  | i :: l => by
    rw [List.map_cons, List.sum_cons, ← owedHops_sum l]
    show owedHops c l + _ + _ + _ + _ = _
    ac_rfl

theorem owedAll_sum : owedAll c = ∑ i : Msg, owed c i := by
  unfold owedAll
  rw [sum_msgs, owedHops_sum]
  congr 4

theorem due_in (i : Msg) : (Pipeline.launchCred (fun d => owed d i) c : sProp 𝕄) ⊢ Due c i := by
  unfold Due owed
  cases used i
  · rw [opt_false rfl]
    exact Entails.of_eq (Pipeline.launchCred_zero c)
  · rw [opt_true rfl]
    exact Pipeline.launchCred_tallyAt (.dma (recvSem i)) (nb i.1) (nb (!i.1)) (fun d => nb_nb i.1 d) (fun d => nb_nb' i.1 d) () N c

theorem bar_in (d : Bool) : (Pipeline.launchCred (fun e => tallyAt (barCell (nb d e)) () 1) c : sProp 𝕄)
    ⊢ cred (tallyAt (barCell c) () 1) :=
  Pipeline.launchCred_tallyAt (.reg barSem) (nb d) (nb (!d)) (fun e => nb_nb d e) (fun e => nb_nb' d e) () 1 c

theorem creds : (Pipeline.launchCred O₀ c : sProp 𝕄)
    ⊢ iprop(cred (tallyAt (barCell c) () 2) ∗ bigSep (Finset.univ : Finset Msg) (Due c)) := by
  have e : (O₀ : Dev nD → CellTallies nD τ sig Unit)
      = fun d => (∑ i : Msg, owed d i) + tallyAt (barCell (nb false d)) () 1 + tallyAt (barCell (nb true d)) () 1 :=
    funext fun d => by unfold O₀; rw [owedAll_sum]
  rw [e, Pipeline.launchCred_add, Pipeline.launchCred_add, Pipeline.launchCred_sum,
    show (tallyAt (barCell c) () 2 : CellTallies nD τ sig Unit) = tallyAt (barCell c) () 1 + tallyAt (barCell c) () 1 from
      (tallyAt_add _ _ 1 1).symm]
  iintro ⟨⟨Hm, Hf⟩, Ht⟩
  isplitl [Hf Ht]
  · iapply (cred_add _ _).2
    isplitl [Hf]
    · iapply (bar_in c false); iexact Hf
    iapply (bar_in c true); iexact Ht
  iapply (show (bigSep (Finset.univ : Finset Msg) fun i => (Pipeline.launchCred (fun d => owed d i) c : sProp 𝕄))
      ⊢ bigSep (Finset.univ : Finset Msg) (Due c) from bigSep_mono fun i _ => due_in c i)
  iexact Hm

/-! ## The cells and the tokens -/

def barEmb : Dev nD ↪ GSem nD τ sig := ⟨fun c => barCell c, fun _ _ h => congrArg (fun g : GSem nD τ sig => g.1.1) h⟩
def ownEmb : Dev nD × (Bool × Msg) ↪ GSem nD τ sig :=
  ⟨fun p => ((p.1 : Thread nD τ), ownCell p.2), fun _ _ h =>
    Prod.ext (congrArg (fun g : GSem nD τ sig => g.1.1) h) (own_facts.inj (congrArg Prod.snd h))⟩

abbrev barCells : Finset (GSem nD τ sig) := Finset.univ.map barEmb
abbrev ownCells : Finset (GSem nD τ sig) := Finset.univ.map ownEmb

/-- A device's duties: its two greetings, and one for each message's cell. -/
abbrev duty : Bool ⊕ (Bool × Msg) → SemLoc sig × Bool := Sum.elim (fun d => (.reg barSem, d)) fun p => (ownCell p, false)

theorem own_ne_bar (p : Bool × Msg) : ownCell p ≠ .reg barSem := by
  obtain ⟨b, i⟩ := p
  cases b <;> exact fun h => by cases h

theorem duty_inj : Function.Injective duty := by
  rintro (d | p) (d' | p') h
  · exact congrArg Sum.inl (congrArg Prod.snd h)
  · exact absurd (congrArg Prod.fst h).symm (own_ne_bar p')
  · exact absurd (congrArg Prod.fst h) (own_ne_bar p)
  · exact congrArg Sum.inr (own_facts.inj (congrArg Prod.fst h))

def dutyEmb : Dev nD × (Bool ⊕ (Bool × Msg)) ↪ GSem nD τ sig × ℕ × Bool :=
  ⟨fun p => (((p.1 : Thread nD τ), (duty p.2).1), 0, (duty p.2).2), fun _ _ h =>
    Prod.ext (congrArg (fun t : GSem nD τ sig × ℕ × Bool => t.1.1.1) h)
      (duty_inj (Prod.ext (congrArg (fun t : GSem nD τ sig × ℕ × Bool => t.1.2) h)
        (congrArg (fun t : GSem nD τ sig × ℕ × Bool => t.2.2) h)))⟩
abbrev duties : Finset (GSem nD τ sig × ℕ × Bool) := Finset.univ.map dutyEmb

theorem cells_apart : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact own_ne_bar p.2 (congrArg Prod.snd h)

theorem bar_mem : barCell c ∈ (barCells ∪ ownCells : Finset (GSem nD τ sig)) :=
  Finset.mem_union_left _ (Finset.mem_map_of_mem barEmb (Finset.mem_univ c))
theorem own_mem (p : Bool × Msg) : ((c : Thread nD τ), ownCell p) ∈ (barCells ∪ ownCells : Finset (GSem nD τ sig)) :=
  Finset.mem_union_right _ (Finset.mem_map_of_mem ownEmb (Finset.mem_univ (c, p)))

/-! ## The records every device reads -/

variable (κ : GSem nD τ sig → ℕ)

def Records : sProp 𝕄 :=
  iprop((bigSep (barCells ∪ ownCells) fun g => cellInv ER (rd (blocks m)) (κ g) g) ∗ bigSep barCells fun g => reached ER g 0)
instance records_persistent : BI.Persistent (Records m κ) := by unfold Records; infer_instance

theorem inv_of {g : GSem nD τ sig} (hg : g ∈ (barCells ∪ ownCells : Finset (GSem nD τ sig))) :
    Records m κ ⊢ cellInv ER (rd (blocks m)) (κ g) g := by
  have h : (bigSep (barCells ∪ ownCells) fun g => (cellInv ER (rd (blocks m)) (κ g) g : sProp 𝕄))
      ⊢ cellInv ER (rd (blocks m)) (κ g) g := bigSep_elim hg
  unfold Records
  iintro ⟨H, -⟩
  iapply h; iexact H
theorem reached_of (d : Dev nD) : Records m κ ⊢ reached ER (barCell d) 0 := by
  have h : (bigSep barCells fun g => (reached ER g 0 : sProp 𝕄)) ⊢ reached ER (barCell d) 0 :=
    bigSep_elim (Finset.mem_map_of_mem barEmb (Finset.mem_univ d))
  unfold Records
  iintro ⟨-, H⟩
  iapply h; iexact H

/-- One record gives as many facts as wanted. -/
theorem facts {I : Type} [DecidableEq I] {R : sProp 𝕄} [BI.Persistent R] {Φ : I → sProp 𝕄} (h : ∀ i, R ⊢ Φ i) (s : Finset I) :
    R ⊢ bigSep s Φ := by
  have h' := all_with (F := F) (R := R) (Φ := fun _ : I => (BI.emp : sProp 𝕄)) (Ψ := Φ)
    (fun i => by iintro ⟨H, -⟩; iapply (h i); iexact H) s
  rw [BI.bigSep_emp_const] at h'
  iintro #H
  iapply h'
  isplitr; · iexact H
  iempintro

theorem invs_of : Records m κ ⊢ invs (blocks m) κ c := by
  have h : ∀ i : Msg, Records m κ ⊢ msgInvs (blocks m) κ c i := fun i => by
    unfold msgInvs
    iintro #H
    isplitr; · iapply (inv_of m κ (own_mem c (false, i))); iexact H
    isplitr; · iapply (inv_of m κ (own_mem c (true, i))); iexact H
    iapply (inv_of m κ (own_mem (nb i.1 c) (true, i))); iexact H
  unfold invs
  iintro #H
  isplitr; · iapply (inv_of m κ (bar_mem c)); iexact H
  isplitr
  · isplitr; · iapply (inv_of m κ (bar_mem (nb false c))); iexact H
    iapply (inv_of m κ (bar_mem (nb true c))); iexact H
  iapply (facts h Finset.univ); iexact H

/-! ## What is dealt -/

def Dealt : sProp 𝕄 :=
  iprop(atPos ER (barCell c) 0 ∅ 0 ∗ (bigSep (Finset.univ : Finset Msg) (Opens c))
    ∗ (dutyTok ER (barCell (nb true c)) 0 false ∗ dutyTok ER (barCell (nb false c)) 0 true)
    ∗ bigSep (Finset.univ : Finset Msg) (Pays c))

theorem ghost_of : iprop(Records m κ ∗ Dealt c) ⊢ iprop(∃ K, Ghost m K c) := by
  unfold Dealt Ghost
  iintro ⟨#HR, Hb, Ho, Ht, Hp⟩
  iexists κ
  isplitr; · iapply (invs_of m c κ); iexact HR
  isplitr
  · isplitr; · iapply (reached_of m κ (nb true c)); iexact HR
    iapply (reached_of m κ (nb false c)); iexact HR
  isplitl [Hb]; · iexact Hb
  isplitl [Ht]; · iexact Ht
  isplitl [Ho] <;> iassumption

/-- The tokens of a device's own cells. -/
def Tokens : sProp 𝕄 :=
  iprop((dutyTok ER (barCell c) 0 false ∗ dutyTok ER (barCell c) 0 true)
    ∗ ((bigSep (Finset.univ : Finset Msg) fun i => dutyTok ER (sendCell c i) 0 false)
      ∗ bigSep (Finset.univ : Finset Msg) fun i => dutyTok ER (recvCell c i) 0 false))

theorem tokens_eq : bigSep duties (fun x => (dutyTok ER x.1 x.2.1 x.2.2 : sProp 𝕄))
    = bigSep Finset.univ fun c : Dev nD => Tokens (F := F) c := by
  unfold duties
  rw [bigSep_map, bigSep_univ_prod]
  refine bigSep_congr fun c _ => ?_
  have e₁ : (bigSep (Finset.univ : Finset Bool) fun d => (dutyTok ER (barCell c) 0 d : sProp 𝕄))
      = iprop(dutyTok ER (barCell c) 0 false ∗ dutyTok ER (barCell c) 0 true) :=
    bigSep_univ_eq_bigSepL [false, true] (by decide) (by decide) _
  have e₂ : (bigSep (Finset.univ : Finset (Bool × Msg)) fun p => (dutyTok ER ((c : Thread nD τ), ownCell p) 0 false : sProp 𝕄))
      = iprop((bigSep (Finset.univ : Finset Msg) fun i => dutyTok ER (sendCell c i) 0 false)
        ∗ bigSep (Finset.univ : Finset Msg) fun i => dutyTok ER (recvCell c i) 0 false) :=
    (by_cell c fun g => dutyTok ER g 0 false).trans (sep_all Finset.univ _ _)
  unfold Tokens
  rw [BI.bigSep_univ_sum, ← e₁, ← e₂]
  rfl

/-- A device and a message, seen from the device the message goes to. -/
def along : Dev nD × Msg ≃ Dev nD × Msg :=
  ⟨fun p => (nb p.2.1 p.1, p.2), fun p => (nb (!p.2.1) p.1, p.2), fun p => Prod.ext (nb_nb' p.2.1 p.1) rfl,
    fun p => Prod.ext (nb_nb p.2.1 p.1) rfl⟩

theorem recv_along : (bigSep Finset.univ fun c : Dev nD => bigSep (Finset.univ : Finset Msg) fun i => (dutyTok ER (recvCell c i) 0 false : sProp 𝕄))
    = bigSep Finset.univ fun c : Dev nD => bigSep (Finset.univ : Finset Msg) fun i => dutyTok ER (recvCell (nb i.1 c) i) 0 false :=
  (bigSep_univ_prod fun p : Dev nD × Msg => (dutyTok ER (recvCell p.1 p.2) 0 false : sProp 𝕄)).symm.trans
    ((bigSep_univ_equiv along _).trans (bigSep_univ_prod _))

/-- Each token handed to the device that pays with it. -/
theorem tokens_around : (bigSep Finset.univ fun c : Dev nD => Tokens (F := F) c)
    ⊢ bigSep Finset.univ fun c : Dev nD => iprop((dutyTok ER (barCell (nb true c)) 0 false ∗ dutyTok ER (barCell (nb false c)) 0 true)
      ∗ bigSep (Finset.univ : Finset Msg) (Pays (F := F) c)) := by
  unfold Tokens
  have hp : ∀ c : Dev nD, iprop((bigSep (Finset.univ : Finset Msg) fun i => dutyTok ER (sendCell c i) 0 false)
        ∗ bigSep (Finset.univ : Finset Msg) fun i => dutyTok ER (recvCell (nb i.1 c) i) 0 false)
      ⊢ bigSep (Finset.univ : Finset Msg) (Pays (F := F) c) := fun c => by
    rw [← sep_all]
    refine bigSep_mono fun i _ => ?_
    have h : iprop(dutyTok ER (sendCell c i) 0 false ∗ dutyTok ER (recvCell (nb i.1 c) i) 0 false) ⊢ Pays (F := F) c i := by
      unfold Pays
      cases used i
      · rw [opt_false rfl]; iintro -; iempintro
      · rw [opt_true rfl]
    exact h
  have e₁ : (bigSep Finset.univ fun c : Dev nD => (dutyTok ER (barCell c) 0 false : sProp 𝕄))
      = bigSep Finset.univ fun c : Dev nD => dutyTok ER (barCell (nb true c)) 0 false := bigSep_univ_equiv (nbE true) _
  have e₂ : (bigSep Finset.univ fun c : Dev nD => (dutyTok ER (barCell c) 0 true : sProp 𝕄))
      = bigSep Finset.univ fun c : Dev nD => dutyTok ER (barCell (nb false c)) 0 true := bigSep_univ_equiv (nbE false) _
  rw [sep_all, sep_all, sep_all, e₁, e₂, recv_along, ← sep_all, ← sep_all, ← sep_all]
  exact bigSep_mono fun c _ => sep_mono_right (hp c)

/-! ## From the launch's holdings to the segments' start -/

/-- The launch's element: the pipeline's own, and the ring's. -/
def u₀ : UU :=
  (initOf (Pipeline.cells (Pipeline.pin (pcfgs (F := F)) adm) cellOf_inj) (Pipeline.launchToks (Pipeline.pin (pcfgs (F := F)) adm) cellOf_inj),
    launchOf barCells ownCells duties)

/-- The ring's element, parked whole on the first device until it is dealt. -/
def Parked (d : Dev nD) : sProp 𝕄 := if d = 0 then BI.own (ER (launchOf barCells ownCells duties)) else iprop(emp)
theorem parked_all : bigSep Finset.univ (Parked (F := F)) = BI.own (ER (launchOf barCells ownCells duties)) := by
  have e : bigSep (Finset.univ.erase (0 : Dev nD)) (Parked (F := F)) = (BI.emp : sProp 𝕄) :=
    (bigSep_congr (Ψ := fun _ => (BI.emp : sProp 𝕄)) fun d hd => if_neg (Finset.ne_of_mem_erase hd)).trans (BI.bigSep_emp_const _)
  rw [bigSep_univ_at _ (0 : Dev nD), e]
  exact (BI.equiv_iff.mp sep_emp).trans (if_pos rfl)

/-- What a device holds at the start. -/
abbrev T₀ (c : Dev nD) : sProp 𝕄 := iprop(StableHlo.held (c : Thread nD τ) (Pipeline.ucRefs τ sig) (W₀ m c) ∗ Rest m c)

def Bundle (c : Dev nD) : sProp 𝕄 :=
  iprop(StableHlo.held (c : Thread nD τ) (Pipeline.ucRefs τ sig) (W₀ m c)
    ∗ (cred (tallyAt (barCell c) () 2) ∗ bigSep (Finset.univ : Finset Msg) (Due c))
    ∗ owes (c : Thread nD τ) (O₀ c) ∅ ∗ ∃ r, prngReg c r)

theorem start_of : iprop(Records m κ ∗ (Dealt c ∗ Bundle m c)) ⊢ T₀ m c := by
  unfold Bundle T₀ Rest Held
  iintro ⟨#HR, Hd, Hh, ⟨Hc, Hm⟩, HO, Hp⟩
  isplitl [Hh]; · iexact Hh
  isplitr [HO]
  · isplitr [Hp]
    · isplitl [Hd]
      · iapply (ghost_of m c κ)
        isplitr; · iexact HR
        iexact Hd
      isplitl [Hc] <;> iassumption
    iexact Hp
  iexists ∅; iexact HO

theorem bar_alone : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]

theorem core_start : iprop(unscopedBufs c (fun b => m ((c : Thread nD τ).loc b)) ∗ unscopedSems0 c ∗ owes (c : Thread nD τ) (O₀ c) ∅
      ∗ Pipeline.launchCred O₀ c ∗ prngReg c (ρ c) ∗ Parked c)
    ⊢ (iprop(Bundle m c ∗ (semVal (barCell c) 0 ∗ Parked c)) : sProp 𝕄) := by
  rw [show unscopedBufs c (fun b => m ((c : Thread nD τ).loc b))
      = StableHlo.held (c : Thread nD τ) (Pipeline.ucRefs τ sig) (W₀ m c) from Pipeline.unscopedBufs_held c (W₀ m c), bar_alone]
  unfold Bundle
  iintro ⟨Hh, Hs, HO, Hc, Hp, HG⟩
  isplitl [Hh HO Hc Hp]
  · isplitl [Hh]; · iexact Hh
    isplitl [Hc]; · iapply (creds c); iexact Hc
    isplitl [HO]; · iexact HO
    iexists (ρ c); iexact Hp
  isplitl [Hs] <;> iassumption

theorem start : iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ Parked c)) ∗ levAts L lv)
    ⊢ (|={Set.univ}=> bigSep Finset.univ (T₀ m) : sProp 𝕄) := by
  have h₁ : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ Parked c))
      ⊢ (iprop((bigSep Finset.univ (Bundle m)) ∗ ((bigSep Finset.univ fun c : Dev nD => semVal (barCell c) 0)
        ∗ BI.own (ER (launchOf barCells ownCells duties)))) : sProp 𝕄) := by
    rw [← parked_all, ← sep_all, ← sep_all]
    exact bigSep_mono fun c _ => core_start m ρ c
  have h₂ : (bigSep Finset.univ fun c : Dev nD => (semVal (barCell c) 0 : sProp 𝕄)) = bigSep barCells fun g => semVal g 0 :=
    (bigSep_map barEmb (Φ := fun g => (semVal g 0 : sProp 𝕄))).symm
  have h₃ : (bigSep barCells fun g => (atPos ER g 0 ∅ 0 : sProp 𝕄)) = bigSep Finset.univ fun c : Dev nD => atPos ER (barCell c) 0 ∅ 0 :=
    bigSep_map barEmb
  have h₄ : (bigSep ownCells fun g => (openTok ER g : sProp 𝕄))
      = bigSep Finset.univ fun c : Dev nD => bigSep (Finset.univ : Finset Msg) (Opens (F := F) c) :=
    (bigSep_map ownEmb).trans ((bigSep_univ_prod _).trans (bigSep_congr fun c _ => by_cell c fun g => openTok ER g))
  have h₅ : (bigSep Finset.univ fun c : Dev nD => iprop(Dealt (F := F) c ∗ Bundle m c))
      = iprop(((bigSep Finset.univ fun c : Dev nD => atPos ER (barCell c) 0 ∅ 0)
        ∗ (bigSep Finset.univ fun c : Dev nD => bigSep (Finset.univ : Finset Msg) (Opens (F := F) c))
        ∗ bigSep Finset.univ fun c : Dev nD => iprop((dutyTok ER (barCell (nb true c)) 0 false ∗ dutyTok ER (barCell (nb false c)) 0 true)
          ∗ bigSep (Finset.univ : Finset Msg) (Pays (F := F) c))) ∗ bigSep Finset.univ (Bundle m)) := by
    unfold Dealt
    rw [sep_all, sep_all, sep_all]
  iintro ⟨H, -⟩
  ihave H := h₁ $$ H
  icases H with ⟨HB, Hv, Hu⟩
  imod (Rounds.fund_launch ER (rd (blocks m)) cells_apart (fun g _ h => h) duties) $$ [Hv Hu] with ⟨%κ, -, #Hi, #Hr, Ha, Ho, Ht⟩
  · isplitl [Hv]; · rw [← h₂]; iexact Hv
    iexact Hu
  imodintro
  iapply (all_with (F := F) (R := Records m κ) (fun c => start_of m c κ) Finset.univ)
  isplitr
  · unfold Records
    isplitr; · iexact Hi
    iexact Hr
  rw [h₅]
  isplitr [HB]
  · isplitl [Ha]; · rw [← h₃]; iexact Ha
    isplitl [Ho]; · rw [← h₄]; iexact Ho
    iapply (tokens_around (F := F))
    rw [← tokens_eq]; iexact Ht
  iexact HB

end Cert.KernelIdeal.Body

end

end
-- ==== Proof.Main.lean ====
/- The run of the program from its launch to its end. -/
module

public import proofs.«01_k».proof.Proof.Launch
public import Idealize.ShloMosaic.Lib.Quiescent

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

def segments : List (Pipeline.Seg (pcfgs (F := F)) adm (pdats m) () defs₀ 𝒱₀ L lv) := [.host (tables m), .region (region m)]

theorem main_eq (c : Dev nD) : main (F := F) c = Pipeline.Seg.run (segments m) :=
  main_segs adm (pdats m) () 𝒱₀ L lv (tables m) (region m) rfl c

/-- What a device holds in the end. -/
abbrev Tₙ (c : Dev nD) : sProp 𝕄 :=
  iprop(StableHlo.held (c : Thread nD τ) (Pipeline.ucRefs τ sig) (W₂ m c) ∗ semVal (barCell c) 0)

/-- The arrays a claim reads, out of all. -/
theorem held_arrays (c : Dev nD) (W : Valuation τ sig (Elt F)) :
    (StableHlo.held (c : Thread nD τ) (Pipeline.ucRefs τ sig) W : sProp 𝕄)
      = iprop(bufPts c main_arg0 (W (Proc.devRef .tc main_arg0)) ∗ bufPts c main_arg1 (W (Proc.devRef .tc main_arg1))
        ∗ bufPts c main_arg2 (W (Proc.devRef .tc main_arg2)) ∗ bufPts c main_arg3 (W (Proc.devRef .tc main_arg3))
        ∗ bufPts c main_c (W (Proc.devRef .tc main_c)) ∗ bufPts c main_c_0 (W (Proc.devRef .tc main_c_0))
        ∗ bufPts c main_v1 (W (Proc.devRef .tc main_v1))) := by
  rw [show Pipeline.ucRefs τ sig = {Proc.devRef .tc main_arg0, Proc.devRef .tc main_arg1, Proc.devRef .tc main_arg2, Proc.devRef .tc main_arg3,
    Proc.devRef .tc main_c, Proc.devRef .tc main_c_0, Proc.devRef .tc main_v1} from by decide +kernel]
  unfold StableHlo.held
  rw [bigSep_insert (by decide +kernel), bigSep_insert (by decide +kernel), bigSep_insert (by decide +kernel), bigSep_insert (by decide +kernel),
    bigSep_insert (by decide +kernel), bigSep_insert (by decide +kernel), bigSep_singleton]
  rfl

/-- What the end of the run says of a device. -/
def Ends (c : Dev nD) (s : MemSt nD τ sig (Elt F)) : Prop :=
  (s.mem ((c : Thread nD τ).loc main_arg0) = W₂ m c (Proc.devRef .tc main_arg0)
    ∧ s.mem ((c : Thread nD τ).loc main_arg1) = W₂ m c (Proc.devRef .tc main_arg1)
    ∧ s.mem ((c : Thread nD τ).loc main_arg2) = W₂ m c (Proc.devRef .tc main_arg2)
    ∧ s.mem ((c : Thread nD τ).loc main_arg3) = W₂ m c (Proc.devRef .tc main_arg3)
    ∧ s.mem ((c : Thread nD τ).loc main_v1) = W₂ m c (Proc.devRef .tc main_v1))
  ∧ s.sem (barCell c) = 0

theorem ends (c : Dev nD) (s' : Phys nD τ sig (Elt F)) :
    iprop(Tₙ m c ∗ SI s') ⊢ (|={Set.univ}=> iprop(⌜Ends m c s'.mem⌝ ∗ SI s') : sProp 𝕄) := by
  dsimp only [Tₙ]
  rw [held_arrays]
  iintro ⟨⟨⟨H0, H1, H2, H3, -, -, H4⟩, Hb⟩, HS⟩
  icombine HS H0 gives %h0
  icombine HS H1 gives %h1
  icombine HS H2 gives %h2
  icombine HS H3 gives %h3
  icombine HS H4 gives %h4
  icombine HS Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4⟩, by simpa using hb⟩
  iexact HS

theorem arg_end {r : Ref sig .tc} (c : Dev nD) (h : r ≠ main_v1) (h' : V m c r = m ((c : Thread nD τ).loc r)) :
    W₂ m c (Proc.devRef .tc r) = m ((c : Thread nD τ).loc r) := (input_ne m c h).trans h'

theorem unscoped_bar : ∀ sm : SemLoc sig, sm.isScoped .tc = false → sm = .reg barSem := by decide +kernel

/-- The result of device `c`, of the arguments at launch. -/
def answer (c : Dev nD) : Vec F S4096x256 .f32 :=
  result (fun d : Dev nD => m ((d : Thread nD τ).loc main_arg0))
    (k0_pay2 (m ((c : Thread nD τ).loc main_arg2) at0) (m ((c : Thread nD τ).loc main_arg3) at0))
    (k0_pay3 (m ((c : Thread nD τ).loc main_arg1)))

theorem out_answer (c : Dev nD) : outOf m c = answer m c := by
  have e : blocks m = fun d : Dev nD => m ((d : Thread nD τ).loc main_arg0) := funext fun d => V_main_arg0 m d
  unfold outOf answer
  rw [e, V_main_arg1, V_main_arg2, V_main_arg3]

set_option backward.isDefEq.respectTransparency.types false in
/-- Every run ends, with the arguments as they were, the result as `answer` says and every counter at zero. -/
theorem run_main : θ_run defs (onTc (τ := τ) (main (F := F))) (s₀ m ρ) (fun r =>
    (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.mem ((c : Thread nD τ).loc main_v1) = answer m c) ∧ r.2.sem = fun _ => 0) :=
  Pipeline.θ_run_regions_kit_sems (pcfgs (F := F)) adm (pdats m) () cellOf_inj EP defs₀ 𝒱₀ L lv m ρ main (segments m)
    (fun c Q => by rw [main_eq m c])
    (by simp only [segments, Pipeline.Seg.pipes_host, Pipeline.Seg.pipes_region, Pipeline.Seg.pipes_nil]; decide)
    (O₀ := O₀) (hL := L_of_ne) (G := Parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun _ => .rfl, fun c => region_pre m c, fun c => region_post m c⟩)
    (hinit := start m ρ)
    (QY := Ends m) (hfin := ends m)
    (hQ := fun s h hs => ⟨fun c => by
        obtain ⟨⟨h0, h1, h2, h3, h4⟩, -⟩ := h c
        exact ⟨⟨h0.trans (arg_end m c (by decide) (V_main_arg0 m c)), h1.trans (arg_end m c (by decide) (V_main_arg1 m c)),
          h2.trans (arg_end m c (by decide) (V_main_arg2 m c)), h3.trans (arg_end m c (by decide) (V_main_arg3 m c))⟩,
          h4.trans ((Function.update_self _ _ _).trans (out_answer m c))⟩,
      sem_eq_zero hs fun c sm hsm => by
        obtain rfl := unscoped_bar sm hsm
        exact (h c).2⟩)

end Cert.KernelIdeal.Body

end

end
-- ==== Proof.Reference.lean ====
/- What the reference's result holds in the end: one function of its arguments. -/
module

public import proofs.«01_k».proof.Proof.Gen.ReferenceIdeal.Value
public import Idealize.ShloMosaic.Lib.MatmulPlain

@[expose] public section

noncomputable section

namespace Cert.ReferenceIdeal.Body

open Idealize.ShloMosaic Idealize.ShloMosaic.TcCoe Idealize.SL.Sem
open Idealize.ShloMosaic.ValueIdx
open Cert.ReferenceIdeal Cert.ReferenceIdeal.Gen

variable {F : FTy → Type} [FloatOps F]

/-- The only place of an array of one element. -/
abbrev only : S1.Idx := Shape.Idx.first (numel1_S1.symm ▸ Nat.one_pos)

theorem only_eq (i j : S1.Idx) : i = j := funext fun a => by
  match a with
  | ⟨0, _⟩ => exact Subsingleton.elim (α := Fin 1) _ _

theorem origin : (![0, 0] : Fin 2 → Nat) = fun _ => 0 := funext fun a => by
  match a with
  | ⟨0, _⟩ => rfl
  | ⟨1, _⟩ => rfl

/-- The body's one store holds the scaled product of what the buffers held. -/
theorem stored (c : Dev nD) (a0 : Memref sig .tc .vmem S4096x4096 .fp8e5m2) (h0 : a0.IsWhole)
    (a1 : Memref sig .tc .vmem S4096x8192 .fp8e5m2) (h1 : a1.IsWhole) (a2 : Memref sig .tc .smem S1 .f32) (h2 : a2.IsWhole)
    (a3 : Memref sig .tc .smem S1 .f32) (h3 : a3.IsWhole) (a4 : Memref sig .tc .vmem S4096x8192 .f32) (h4 : a4.IsWhole)
    (x0 : Vec F S4096x4096 .fp8e5m2) (x1 : Vec F S4096x8192 .fp8e5m2) (x2 x3 : Vec F S1 .f32) :
    out0_A_4 c a0 h0 a1 h1 a2 h2 a3 h3 a4 h4 x0 x1 x2 x3 = k0_pay1 x0 x1 (x2 only) (x3 only) := by
  unfold out0_A_4
  rw [View.read_writes_junk_eq_canon]
  show View.canon ([⟨Rect.unit ![0, 0] S4096x8192.size inb_S4096x8192_S4096x8192_0_0,
      k0_pay1 (a0.view.readAt (Elt F) (Rect.unit ![0, 0] S4096x4096.size inb_S4096x4096_S4096x4096_0_0).toLoadRect (h0.unread x0))
        (a1.view.readAt (Elt F) (Rect.unit ![0, 0] S4096x8192.size inb_S4096x8192_S4096x8192_0_0).toLoadRect (h1.unread x1))
        (a2.view.readAt (Elt F) (Rect.unit (s := S1) ![0] S1.size inb_S1_S1_0).toLoadRect (h2.unread x2) _)
        (a3.view.readAt (Elt F) (Rect.unit (s := S1) ![0] S1.size inb_S1_S1_0).toLoadRect (h3.unread x3) _)⟩] :
      List (View.Piece (Elt F) S4096x8192 .f32)) = _
  rw [View.canon_unit_zero origin, View.readAt_eq_ld, View.readAt_eq_ld, View.readAt_eq_ld, View.readAt_eq_ld,
    h0.read_unread, h1.read_unread, h2.read_unread, h3.read_unread, View.ld_unit_zero origin, View.ld_unit_zero origin]
  exact congrArg₂ (k0_pay1 x0 x1) (congrArg x2 (only_eq _ _)) (congrArg x3 (only_eq _ _))

variable (m : (ℓ : Loc nD τ sig) → Buf (Elt F) ℓ)

/-- The one point of the schedule. -/
abbrev t0 : Fin cfg0.N := ⟨0, by decide⟩

theorem whole_0 (f : main_arg0.ty.Contents (Elt F)) : ((cfg0.win 0).blk t0).view.read (Elt F) f = f :=
  funext fun i => congrArg f (funext fun a => Fin.ext (by
    show 0 * _ + 1 * (i a).val = _; rw [Nat.zero_mul, Nat.one_mul, Nat.zero_add]))
theorem whole_1 (f : main_arg1.ty.Contents (Elt F)) : ((cfg0.win 1).blk t0).view.read (Elt F) f = f :=
  funext fun i => congrArg f (funext fun a => Fin.ext (by
    show 0 * _ + 1 * (i a).val = _; rw [Nat.zero_mul, Nat.one_mul, Nat.zero_add]))
theorem whole_2 (f : main_arg2.ty.Contents (Elt F)) : ((cfg0.win 2).blk t0).view.read (Elt F) f = f :=
  funext fun i => congrArg f (only_eq _ _)
theorem whole_3 (f : main_arg3.ty.Contents (Elt F)) : ((cfg0.win 3).blk t0).view.read (Elt F) f = f :=
  funext fun i => congrArg f (only_eq _ _)
theorem whole_4 (f : main_v0.ty.Contents (Elt F)) : ((cfg0.win 4).blk t0).view.read (Elt F) f = f :=
  funext fun i => congrArg f (funext fun a => Fin.ext (by
    show 0 * _ + 1 * (i a).val = _; rw [Nat.zero_mul, Nat.one_mul, Nat.zero_add]))

/-- The result in the end. -/
theorem final (c : Dev nD) : (dats m 0 c).arrAt 4 cfg0.N
    = k0_pay1 (m ((c : Thread nD τ).loc main_arg0)) (m ((c : Thread nD τ).loc main_arg1))
      (m ((c : Thread nD τ).loc main_arg2) only) (m ((c : Thread nD τ).loc main_arg3) only) := by
  refine (whole_4 _).symm.trans ((Value.blocks4 m c t0 (flush0_4 t0)).trans ((Value.flushed4_A m c t0).trans ?_))
  refine (stored c _ _ _ _ _ _ _ _ _ _ _ _ _ _).trans ?_
  unfold iblk
  rw [show ((cfg0.win 0).blk t0).view.read (Elt F) (V m c (Pipeline.arrRef spec0 0)) = m ((c : Thread nD τ).loc main_arg0) from whole_0 _,
    show ((cfg0.win 1).blk t0).view.read (Elt F) (V m c (Pipeline.arrRef spec0 1)) = m ((c : Thread nD τ).loc main_arg1) from whole_1 _,
    show ((cfg0.win 2).blk t0).view.read (Elt F) (V m c (Pipeline.arrRef spec0 2)) = m ((c : Thread nD τ).loc main_arg2) from whole_2 _,
    show ((cfg0.win 3).blk t0).view.read (Elt F) (V m c (Pipeline.arrRef spec0 3)) = m ((c : Thread nD τ).loc main_arg3) from whole_3 _]

/-- Over the reals the stored value is a plain product, scaled. -/
theorem product (x : Vec Ideal S4096x4096 .fp8e5m2) (w : Vec Ideal S4096x8192 .fp8e5m2) (a b : Ideal .f32) (r : Fin 4096) (n : Fin 8192) :
    k0_pay1 (F := Ideal) x w a b (ix2 r n)
      = ((Ideal.ofBits .f32 0x00000000#32 : EReal) + ∑ k : Fin 4096, (x (ix2 r k) : EReal) * w (ix2 k n)) * ((a : EReal) * b) :=
  congrArg (fun z : EReal => z * ((a : EReal) * b)) (Ideal.matmul_plain_apply (M := 4096) (K := 4096) (N := 8192) none
    (extf .f32 x bitsLt_fp8e5m2_f32) (extf .f32 w bitsLt_fp8e5m2_f32) (constant S4096x8192 .f32 0x00000000#32) r n)

end Cert.ReferenceIdeal.Body

end

end
-- ==== Proof.Product.lean ====
/- The kernel's result over the reals: on each device a block of columns of the reference's. -/
module

public import proofs.«01_k».proof.Proof.Main
public import proofs.«01_k».proof.Proof.Reference
public import Idealize.ShloMosaic.Lib.Layout

@[expose] public section

noncomputable section

namespace Cert.KernelIdeal.Body

open Idealize.ShloMosaic Idealize.ShloMosaic.TcCoe Idealize.SL.Sem
open Idealize.ShloMosaic.ValueIdx
open Cert.KernelIdeal Cert.KernelIdeal.Gen

/-- A block into the gathering buffer and out again. -/
theorem in_and_out (x : Vec Ideal S128x4096 .fp8e5m2) :
    shapeCast S128x4096 (k0_pay1 (F := Ideal) x) shapeCasts_S1x128x4096_S128x4096 = x := by
  unfold k0_pay1
  rw [shapeCast_self]
  exact shapeCast_shapeCast _ _ _

/-- One block's product, scaled. -/
theorem product (sx sw : Ideal .f32) (w : Vec Ideal S4096x256 .fp8e5m2) (x : Vec Ideal S128x4096 .fp8e5m2) (r : Fin 128) (n : Fin 256) :
    k0_pay7 (F := Ideal) (k0_pay2 sx sw) (k0_pay3 w) (k0_pay1 x) (ix2 r n)
      = ((Ideal.ofBits .f32 0x00000000#32 : EReal) + ∑ k : Fin 4096, (x (ix2 r k) : EReal) * w (ix2 k n)) * ((sx : EReal) * sw) := by
  unfold k0_pay7 k0_pay3
  rw [in_and_out, shapeCast_self]
  exact congrArg (fun z : EReal => z * ((sx : EReal) * sw)) (Ideal.matmul_plain_apply (M := 128) (K := 4096) (N := 256) none
    (extf .bf16 x bitsLt_fp8e5m2_bf16) (extf .bf16 w bitsLt_fp8e5m2_bf16) (constant S128x256 .f32 0x00000000#32) r n)

/-- The kernel's result on device `c` is block `c` of the columns of the reference's, if its arguments are the blocks of
    the reference's arguments. -/
theorem answer_block (m : (ℓ : Loc nD τ sig) → Buf (Elt Ideal) ℓ)
    (X : (⟨2, ![4096, 4096]⟩ : Shape).Idx → Elt Ideal .fp8e5m2) (W : (⟨2, ![4096, 8192]⟩ : Shape).Idx → Elt Ideal .fp8e5m2)
    (a b : S1.Idx → Elt Ideal .f32)
    (hx : ∀ d : Dev nD, m ((d : Thread nD τ).loc main_arg0) = Layout.block ⟨2, ![128, 4096]⟩ ⟨2, ![4096, 4096]⟩ 0 32 d X)
    (c : Dev nD) (hw : m ((c : Thread nD τ).loc main_arg1) = Layout.block ⟨2, ![4096, 256]⟩ ⟨2, ![4096, 8192]⟩ 1 32 c W)
    (ha : m ((c : Thread nD τ).loc main_arg2) = a) (hb : m ((c : Thread nD τ).loc main_arg3) = b) :
    answer m c = Layout.block ⟨2, ![4096, 256]⟩ ⟨2, ![4096, 8192]⟩ 1 32 c
      (Cert.ReferenceIdeal.Gen.k0_pay1 (F := Ideal) X W (a at0) (b at0)) := by
  funext i
  unfold answer result
  rw [hw, ha, hb, Layout.block_apply]
  beta_reduce
  rw [hx]
  have hi0 : (i 0).val < 4096 := (i 0).isLt
  have hi1 : (i 1).val < 256 := (i 1).isLt
  have hc : c.val < 32 := c.isLt
  rw [show inBlock i = ix2 (n0 := 128) (n1 := 256) ⟨(i 0).val % 128, Nat.mod_lt _ (by decide)⟩ ⟨(i 1).val, hi1⟩ from
    funext fun a => by match a with | ⟨0, _⟩ => rfl | ⟨1, _⟩ => rfl]
  have e : ∀ h : Layout.Tiles ⟨2, ![4096, 256]⟩ ⟨2, ![4096, 8192]⟩ 1 32, h.idx c i
      = ix2 (n0 := 4096) (n1 := 8192) ⟨(i 0).val, hi0⟩ ⟨c.val * 256 + (i 1).val, by omega⟩ := fun h =>
    funext fun a => by match a with | ⟨0, _⟩ => rfl | ⟨1, _⟩ => rfl
  rw [e, product, Cert.ReferenceIdeal.Body.product]
  refine congrArg (fun z : EReal => ((Ideal.ofBits .f32 0x00000000#32 : EReal) + z) * ((a at0 : EReal) * b at0)) (Finset.sum_congr rfl fun k _ => ?_)
  refine congrArg₂ (fun p q : EReal => p * q) (congrArg X (funext fun a => Fin.ext ?_)) (congrArg W (funext fun a => Fin.ext ?_))
  · match a with
    | ⟨0, _⟩ => show (i 0).val / 128 * 128 + (i 0).val % 128 = (i 0).val; omega
    | ⟨1, _⟩ => rfl
  · match a with
    | ⟨0, _⟩ => rfl
    | ⟨1, _⟩ => rfl

end Cert.KernelIdeal.Body

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Product
public import Idealize.ShloMosaic.Lib.Tactic
public import Idealize.ShloMosaic.Adequacy
public import Idealize.ShloMosaic.Init

@[expose] public section

noncomputable section

namespace Cert.Proof

open Idealize.ShloMosaic Idealize.ShloMosaic.TcCoe Idealize.SL.Sem

/-- The two printed kernels are one text: their bodies agree, and so do their entry functions. -/
theorem defs_same : Cert.Kernel.defs (F := Bits) = Cert.KernelIdeal.defs (F := Bits) := by sl_kernel_rfl

theorem main_same : Cert.Kernel.main (F := Bits) = Cert.KernelIdeal.main (F := Bits) := rfl

/-- The kernel's frame: its run, of machine values, with the result forgotten. -/
theorem frame_kernel : Cert.quiescent_Kernel := fun m ρ _ => by
  rw [defs_same, main_same]
  exact (θ_run Cert.KernelIdeal.defs _ _).mono (fun _ h => ⟨fun c => (h.1 c).1, h.2⟩) (Cert.KernelIdeal.Body.run_main (F := Bits) m ρ)

/-- The same over the reals. -/
theorem frame_ideal : Cert.quiescent_KernelIdeal := fun m ρ _ =>
  (θ_run Cert.KernelIdeal.defs _ _).mono (fun _ h => ⟨fun c => (h.1 c).1, h.2⟩) (Cert.KernelIdeal.Body.run_main (F := Ideal) m ρ)

theorem frame_reference : Cert.quiescent_ReferenceIdeal := fun m ρ _ => Cert.ReferenceIdeal.Gen.frame m ρ

/-- Each device's result is its block of columns of the reference's result. -/
theorem same_values : Cert.algebraic_KernelIdeal_ReferenceIdeal := by
  intro m ρ m' ρ' _ hm
  refine ⟨_, (θ_run Cert.KernelIdeal.defs _ _).mono (fun _ h c => ⟨?_, (h.1 c).1.1, (h.1 c).1.2.1, (h.1 c).1.2.2.1, (h.1 c).1.2.2.2⟩)
      (Cert.KernelIdeal.Body.run_main (F := Ideal) m ρ),
    (θ_run Cert.ReferenceIdeal.defs _ _).mono (fun _ h => ⟨((h 0).1).trans (Cert.ReferenceIdeal.Body.final m' 0), (h 0).2⟩)
      (Cert.ReferenceIdeal.Value.run_blocks m' ρ')⟩
  exact (h.1 c).2.trans (Cert.KernelIdeal.Body.answer_block m _ _ _ _ (fun d => (hm d).1) c (hm c).2.1 (hm c).2.2.1 (hm c).2.2.2)

theorem claim : Cert.Claim := ⟨Cert.Kernel.Gen.facts, Cert.KernelIdeal.Gen.facts, Cert.ReferenceIdeal.Gen.facts,
  frame_kernel, frame_ideal, frame_reference, trivial, same_values⟩

end Cert.Proof

end
